-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x2048 : Shape := ⟨2, ![16384, 2048]⟩
abbrev S16x2048 : Shape := ⟨2, ![16, 2048]⟩
abbrev S64x16 : Shape := ⟨2, ![64, 16]⟩
abbrev S2048x16 : Shape := ⟨2, ![2048, 16]⟩
abbrev S16x64 : Shape := ⟨2, ![16, 64]⟩
abbrev S16384x64 : Shape := ⟨2, ![16384, 64]⟩
abbrev S3x2048x2048 : Shape := ⟨3, ![3, 2048, 2048]⟩
abbrev S3 : Shape := ⟨1, ![3]⟩
abbrev S2x2048x64 : Shape := ⟨3, ![2, 2048, 64]⟩
abbrev S2 : Shape := ⟨1, ![2]⟩
abbrev S1 : Shape := ⟨1, ![1]⟩
abbrev S_ : Shape := ⟨0, ![]⟩
abbrev S1x2048x2048 : Shape := ⟨3, ![1, 2048, 2048]⟩
abbrev S2048x2048 : Shape := ⟨2, ![2048, 2048]⟩
abbrev S2048x64 : Shape := ⟨2, ![2048, 64]⟩
abbrev S1x2048x64 : Shape := ⟨3, ![1, 2048, 64]⟩

abbrev nBuf : Space → Nat
  | .hbm => 6
  | .vmem => 4
  | .smem => 0
  | _ => 0

abbrev bufTy : (tb : Table) → Fin (tcTables nBuf tb) → BufTy
  | .hbm, ⟨0, _⟩ => ⟨S16384x2048, .f32⟩
  | .hbm, ⟨1, _⟩ => ⟨S16x2048, .f32⟩
  | .hbm, ⟨2, _⟩ => ⟨S64x16, .f32⟩
  | .hbm, ⟨3, _⟩ => ⟨S2048x16, .f32⟩
  | .hbm, ⟨4, _⟩ => ⟨S16x64, .f32⟩
  | .hbm, ⟨5, _⟩ => ⟨S16384x64, .f32⟩
  | .local _ .vmem, ⟨0, _⟩ => ⟨S2048x16, .f32⟩
  | .local _ .vmem, ⟨1, _⟩ => ⟨S16x64, .f32⟩
  | .local _ .vmem, ⟨2, _⟩ => ⟨S3x2048x2048, .f32⟩
  | .local _ .vmem, ⟨3, _⟩ => ⟨S2x2048x64, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_scoped0 : Ref sig .tc := ⟨.vmem, 2, rfl⟩
abbrev cc0_scoped2 : Ref sig .tc := ⟨.vmem, 3, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

def k0_off1 : Fin 1 → Nat :=
  let c0_i32_22_r0 : BitVec 32 := 0#32
  let c3_i32_r0 : BitVec 32 := 3#32
  let v25_r0 : BitVec 32 := Scalar.remui c0_i32_22_r0 c3_i32_r0
  ![v25_r0.toNat]
def k0_off2 : Fin 3 → Nat :=
  let c0_i32_22_r0 : BitVec 32 := 0#32
  let c3_i32_r0 : BitVec 32 := 3#32
  let v25_r0 : BitVec 32 := Scalar.remui c0_i32_22_r0 c3_i32_r0
  let c0_i32_23_r0 : BitVec 32 := 0#32
  let c0_i32_24_r0 : BitVec 32 := 0#32
  ![v25_r0.toNat, 0, 0]
def k0_off3 : Fin 2 → Nat :=
  let c2048_i32_r0 : BitVec 32 := 2048#32
  let c0_i32_20_r0 : BitVec 32 := 0#32
  let c0_i32_21_r0 : BitVec 32 := 0#32
  let v24_r0 : BitVec 32 := Scalar.addi c0_i32_20_r0 c0_i32_21_r0
  let v26_r0 : BitVec 32 := Scalar.muli c2048_i32_r0 v24_r0
  let c0_i32_25_r0 : BitVec 32 := 0#32
  ![v26_r0.toNat, 0]
def k0_off4 (arg6_r0 : BitVec 32) : Fin 1 → Nat :=
  let c3_i32_81_r0 : BitVec 32 := 3#32
  let v85_r0 : BitVec 32 := Scalar.remui arg6_r0 c3_i32_81_r0
  ![v85_r0.toNat]
def k0_cond1 (arg4_r0 : BitVec 32) (arg5_r0 : BitVec 32) : BitVec 1 :=
  let c0_i32_74_r0 : BitVec 32 := 0#32
  let v75_r0 : BitVec 32 := Scalar.addi arg4_r0 c0_i32_74_r0
  let c0_i32_75_r0 : BitVec 32 := 0#32
  let v76_r0 : BitVec 32 := Scalar.addi arg5_r0 c0_i32_75_r0
  let v77_r0 : BitVec 1 := Scalar.cmpi .ne v75_r0 v76_r0
  let v78_r0 : BitVec 32 := Scalar.extui v77_r0
  let c0_i32_76_r0 : BitVec 32 := 0#32
  let v79_r0 : BitVec 1 := Scalar.cmpi .ne v78_r0 c0_i32_76_r0
  v79_r0

def k0_off5 (arg6_r0 : BitVec 32) : Fin 3 → Nat :=
  let c3_i32_81_r0 : BitVec 32 := 3#32
  let v85_r0 : BitVec 32 := Scalar.remui arg6_r0 c3_i32_81_r0
  let c0_i32_83_r0 : BitVec 32 := 0#32
  let c0_i32_84_r0 : BitVec 32 := 0#32
  ![v85_r0.toNat, 0, 0]

def k0_chk1 (arg4_r0 : BitVec 32) (arg5_r0 : BitVec 32) (arg6_r0 : BitVec 32) : Prop :=
  (∀ (k0_h1 : k0_cond1 arg4_r0 arg5_r0 = 1#1), ∀ a, (k0_off4 arg6_r0) a + S1.size a ≤ S3.size a) ∧
  (∀ (k0_h1 : k0_cond1 arg4_r0 arg5_r0 = 1#1), ∀ a, (k0_off5 arg6_r0) a + S1x2048x2048.size a ≤ S3x2048x2048.size a)
theorem k0_off4_inb : ∀ (arg4_r0 : BitVec 32) (arg5_r0 : BitVec 32) (arg6_r0 : BitVec 32) (k0_hw1 : k0_chk1 arg4_r0 arg5_r0 arg6_r0), ∀ (k0_h1 : k0_cond1 arg4_r0 arg5_r0 = 1#1), ∀ a, (k0_off4 arg6_r0) a + S1.size a ≤ S3.size a := fun arg4_r0 arg5_r0 arg6_r0 k0_hw1 k0_h1 => k0_hw1.1 k0_h1
theorem k0_off5_inb : ∀ (arg4_r0 : BitVec 32) (arg5_r0 : BitVec 32) (arg6_r0 : BitVec 32) (k0_hw1 : k0_chk1 arg4_r0 arg5_r0 arg6_r0), ∀ (k0_h1 : k0_cond1 arg4_r0 arg5_r0 = 1#1), ∀ a, (k0_off5 arg6_r0) a + S1x2048x2048.size a ≤ S3x2048x2048.size a := fun arg4_r0 arg5_r0 arg6_r0 k0_hw1 k0_h1 => k0_hw1.2 k0_h1

def k0_off6 (arg5_r0 : BitVec 32) : Fin 2 → Nat :=
  let c2048_i32_82_r0 : BitVec 32 := 2048#32
  let c0_i32_75_r0 : BitVec 32 := 0#32
  let v76_r0 : BitVec 32 := Scalar.addi arg5_r0 c0_i32_75_r0
  let v86_r0 : BitVec 32 := Scalar.muli c2048_i32_82_r0 v76_r0
  let c0_i32_85_r0 : BitVec 32 := 0#32
  ![v86_r0.toNat, 0]

def k0_chk2 (arg4_r0 : BitVec 32) (arg5_r0 : BitVec 32) : Prop :=
  (∀ (k0_h1 : k0_cond1 arg4_r0 arg5_r0 = 1#1), ∀ a, (k0_off6 arg5_r0) a + S2048x2048.size a ≤ S16384x2048.size a)
theorem k0_off6_inb : ∀ (arg4_r0 : BitVec 32) (arg5_r0 : BitVec 32) (k0_hw2 : k0_chk2 arg4_r0 arg5_r0), ∀ (k0_h1 : k0_cond1 arg4_r0 arg5_r0 = 1#1), ∀ a, (k0_off6 arg5_r0) a + S2048x2048.size a ≤ S16384x2048.size a := fun arg4_r0 arg5_r0 k0_hw2 k0_h1 => k0_hw2 k0_h1

@[reducible] def k0_t1_loop : Scf.Loop 32 :=
  let c0_i32_41_r0 : BitVec 32 := 0#32
  let c8_i32_42_r0 : BitVec 32 := 8#32
  let v41_r0 : BitVec 32 := Scalar.addi c0_i32_41_r0 c8_i32_42_r0
  let c1_i32_43_r0 : BitVec 32 := 1#32
  ⟨c0_i32_41_r0, v41_r0, c1_i32_43_r0⟩
def k0_off7 (arg13_r0 : BitVec 32) : Fin 1 → Nat :=
  let c3_i32_140_r0 : BitVec 32 := 3#32
  let v178_r0 : BitVec 32 := Scalar.remui arg13_r0 c3_i32_140_r0
  ![v178_r0.toNat]
def k0_cond2 (arg11_r0 : BitVec 32) (arg12_r0 : BitVec 32) : BitVec 1 :=
  let c0_i32_133_r0 : BitVec 32 := 0#32
  let v168_r0 : BitVec 32 := Scalar.addi arg11_r0 c0_i32_133_r0
  let c0_i32_134_r0 : BitVec 32 := 0#32
  let v169_r0 : BitVec 32 := Scalar.addi arg12_r0 c0_i32_134_r0
  let v170_r0 : BitVec 1 := Scalar.cmpi .ne v168_r0 v169_r0
  let v171_r0 : BitVec 32 := Scalar.extui v170_r0
  let c0_i32_135_r0 : BitVec 32 := 0#32
  let v172_r0 : BitVec 1 := Scalar.cmpi .ne v171_r0 c0_i32_135_r0
  v172_r0

def k0_off8 (arg13_r0 : BitVec 32) : Fin 3 → Nat :=
  let c3_i32_140_r0 : BitVec 32 := 3#32
  let v178_r0 : BitVec 32 := Scalar.remui arg13_r0 c3_i32_140_r0
  let c0_i32_142_r0 : BitVec 32 := 0#32
  let c0_i32_143_r0 : BitVec 32 := 0#32
  ![v178_r0.toNat, 0, 0]

def k0_chk3 (arg11_r0 : BitVec 32) (arg12_r0 : BitVec 32) (arg13_r0 : BitVec 32) : Prop :=
  (∀ (k0_h2 : k0_cond2 arg11_r0 arg12_r0 = 1#1), ∀ a, (k0_off7 arg13_r0) a + S1.size a ≤ S3.size a) ∧
  (∀ (k0_h2 : k0_cond2 arg11_r0 arg12_r0 = 1#1), ∀ a, (k0_off8 arg13_r0) a + S1x2048x2048.size a ≤ S3x2048x2048.size a)
theorem k0_off7_inb : ∀ (arg11_r0 : BitVec 32) (arg12_r0 : BitVec 32) (arg13_r0 : BitVec 32) (k0_hw3 : k0_chk3 arg11_r0 arg12_r0 arg13_r0), ∀ (k0_h2 : k0_cond2 arg11_r0 arg12_r0 = 1#1), ∀ a, (k0_off7 arg13_r0) a + S1.size a ≤ S3.size a := fun arg11_r0 arg12_r0 arg13_r0 k0_hw3 k0_h2 => k0_hw3.1 k0_h2
theorem k0_off8_inb : ∀ (arg11_r0 : BitVec 32) (arg12_r0 : BitVec 32) (arg13_r0 : BitVec 32) (k0_hw3 : k0_chk3 arg11_r0 arg12_r0 arg13_r0), ∀ (k0_h2 : k0_cond2 arg11_r0 arg12_r0 = 1#1), ∀ a, (k0_off8 arg13_r0) a + S1x2048x2048.size a ≤ S3x2048x2048.size a := fun arg11_r0 arg12_r0 arg13_r0 k0_hw3 k0_h2 => k0_hw3.2 k0_h2

def k0_off9 (arg12_r0 : BitVec 32) : Fin 2 → Nat :=
  let c2048_i32_141_r0 : BitVec 32 := 2048#32
  let c0_i32_134_r0 : BitVec 32 := 0#32
  let v169_r0 : BitVec 32 := Scalar.addi arg12_r0 c0_i32_134_r0
  let v179_r0 : BitVec 32 := Scalar.muli c2048_i32_141_r0 v169_r0
  let c0_i32_144_r0 : BitVec 32 := 0#32
  ![v179_r0.toNat, 0]

def k0_chk4 (arg11_r0 : BitVec 32) (arg12_r0 : BitVec 32) : Prop :=
  (∀ (k0_h2 : k0_cond2 arg11_r0 arg12_r0 = 1#1), ∀ a, (k0_off9 arg12_r0) a + S2048x2048.size a ≤ S16384x2048.size a)
theorem k0_off9_inb : ∀ (arg11_r0 : BitVec 32) (arg12_r0 : BitVec 32) (k0_hw4 : k0_chk4 arg11_r0 arg12_r0), ∀ (k0_h2 : k0_cond2 arg11_r0 arg12_r0 = 1#1), ∀ a, (k0_off9 arg12_r0) a + S2048x2048.size a ≤ S16384x2048.size a := fun arg11_r0 arg12_r0 k0_hw4 k0_h2 => k0_hw4 k0_h2

def k0_off10 (arg6_r0 : BitVec 32) : Fin 1 → Nat :=
  let c3_i32_134_r0 : BitVec 32 := 3#32
  let v169_r0 : BitVec 32 := Scalar.remui arg6_r0 c3_i32_134_r0
  ![v169_r0.toNat]
def k0_cond3 (k0_t1 : Fin k0_t1_loop.trips) (arg10_r0 : BitVec 32) : BitVec 1 :=
  let c0_i32_76_r0 : BitVec 32 := 0#32
  let v77_r0 : BitVec 32 := Scalar.addi arg10_r0 c0_i32_76_r0
  let true_78_r0 : BitVec 1 := 1#1
  let c1_i32_77_r0 : BitVec 32 := 1#32
  let v78_r0 : BitVec 32 := Scalar.subi arg10_r0 c1_i32_77_r0
  let v79_r0 : BitVec 32 := Scalar.select true_78_r0 v78_r0 arg10_r0
  let c_m1_i32_79_r0 : BitVec 32 := 4294967295#32
  let v80_r0 : BitVec 1 := Scalar.cmpi .eq v79_r0 c_m1_i32_79_r0
  let c7_i32_80_r0 : BitVec 32 := 7#32
  let v81_r0 : BitVec 32 := Scalar.select v80_r0 c7_i32_80_r0 v79_r0
  let c0_i32_81_r0 : BitVec 32 := 0#32
  let v82_r0 : BitVec 32 := Scalar.addi v81_r0 c0_i32_81_r0
  let v111_r0 : BitVec 1 := Scalar.cmpi .ne v77_r0 v82_r0
  let c0_i32_41_r0 : BitVec 32 := 0#32
  let c1_i32_43_r0 : BitVec 32 := 1#32
  let arg4_r0 : BitVec 32 := Scf.iv c0_i32_41_r0 c1_i32_43_r0 k0_t1
  let c0_i32_74_r0 : BitVec 32 := 0#32
  let v75_r0 : BitVec 1 := Scalar.cmpi .eq arg4_r0 c0_i32_74_r0
  let v112_r0 : BitVec 1 := Scalar.ori v111_r0 v75_r0
  let c0_i32_105_r0 : BitVec 32 := 0#32
  let v113_r0 : BitVec 1 := Scalar.cmpi .sge arg4_r0 c0_i32_105_r0
  let v114_r0 : BitVec 1 := Scalar.andi v112_r0 v113_r0
  let v115_r0 : BitVec 32 := Scalar.extui v114_r0
  let c0_i32_106_r0 : BitVec 32 := 0#32
  let v116_r0 : BitVec 1 := Scalar.cmpi .ne v115_r0 c0_i32_106_r0
  v116_r0

def k0_off11 (arg6_r0 : BitVec 32) : Fin 3 → Nat :=
  let c3_i32_134_r0 : BitVec 32 := 3#32
  let v169_r0 : BitVec 32 := Scalar.remui arg6_r0 c3_i32_134_r0
  let c0_i32_135_r0 : BitVec 32 := 0#32
  let c0_i32_136_r0 : BitVec 32 := 0#32
  ![v169_r0.toNat, 0, 0]
def k0_off12 (arg10_r0 : BitVec 32) : Fin 2 → Nat :=
  let c2048_i32_133_r0 : BitVec 32 := 2048#32
  let c0_i32_76_r0 : BitVec 32 := 0#32
  let v77_r0 : BitVec 32 := Scalar.addi arg10_r0 c0_i32_76_r0
  let v168_r0 : BitVec 32 := Scalar.muli c2048_i32_133_r0 v77_r0
  let c0_i32_137_r0 : BitVec 32 := 0#32
  ![v168_r0.toNat, 0]
def k0_off13 (arg6_r0 : BitVec 32) : Fin 3 → Nat :=
  let c3_i32_109_r0 : BitVec 32 := 3#32
  let v123_r0 : BitVec 32 := Scalar.remui arg6_r0 c3_i32_109_r0
  let v125_r0 : Index := Scalar.indexCast v123_r0
  let c0_111_r0 : Index := 0#32
  let c0_112_r0 : Index := 0#32
  ![v125_r0.toNat, 0, 0]

def k0_chk6 (arg6_r0 : BitVec 32) : Prop :=
  (∀ a, (k0_off13 arg6_r0) a + S1x2048x2048.size a ≤ S3x2048x2048.size a)
theorem k0_off13_inb : ∀ (arg6_r0 : BitVec 32) (k0_hw6 : k0_chk6 arg6_r0), ∀ a, (k0_off13 arg6_r0) a + S1x2048x2048.size a ≤ S3x2048x2048.size a := fun arg6_r0 k0_hw6 => k0_hw6

def k0_off14 (arg8_r0 : BitVec 32) : Fin 3 → Nat :=
  let c2_i32_110_r0 : BitVec 32 := 2#32
  let v124_r0 : BitVec 32 := Scalar.remui arg8_r0 c2_i32_110_r0
  let v130_r0 : Index := Scalar.indexCast v124_r0
  let c0_114_r0 : Index := 0#32
  let c0_115_r0 : Index := 0#32
  ![v130_r0.toNat, 0, 0]

def k0_chk7 (arg8_r0 : BitVec 32) : Prop :=
  (∀ a, (k0_off14 arg8_r0) a + S1x2048x64.size a ≤ S2x2048x64.size a)
theorem k0_off14_inb : ∀ (arg8_r0 : BitVec 32) (k0_hw7 : k0_chk7 arg8_r0), ∀ a, (k0_off14 arg8_r0) a + S1x2048x64.size a ≤ S2x2048x64.size a := fun arg8_r0 k0_hw7 => k0_hw7

def k0_off15 (arg8_r0 : BitVec 32) : Fin 1 → Nat :=
  let c2_i32_133_r0 : BitVec 32 := 2#32
  let v168_r0 : BitVec 32 := Scalar.remui arg8_r0 c2_i32_133_r0
  ![v168_r0.toNat]
def k0_cond6 (k0_t1 : Fin k0_t1_loop.trips) (arg10_r0 : BitVec 32) : BitVec 1 :=
  let c0_i32_76_r0 : BitVec 32 := 0#32
  let v77_r0 : BitVec 32 := Scalar.addi arg10_r0 c0_i32_76_r0
  let true_83_r0 : BitVec 1 := 1#1
  let c1_i32_82_r0 : BitVec 32 := 1#32
  let v83_r0 : BitVec 32 := Scalar.addi arg10_r0 c1_i32_82_r0
  let v84_r0 : BitVec 32 := Scalar.select true_83_r0 v83_r0 arg10_r0
  let c8_i32_84_r0 : BitVec 32 := 8#32
  let v85_r0 : BitVec 1 := Scalar.cmpi .eq v84_r0 c8_i32_84_r0
  let c0_i32_85_r0 : BitVec 32 := 0#32
  let v86_r0 : BitVec 32 := Scalar.select v85_r0 c0_i32_85_r0 v84_r0
  let c0_i32_86_r0 : BitVec 32 := 0#32
  let v87_r0 : BitVec 32 := Scalar.addi v86_r0 c0_i32_86_r0
  let v139_r0 : BitVec 1 := Scalar.cmpi .ne v77_r0 v87_r0
  let c0_i32_41_r0 : BitVec 32 := 0#32
  let c1_i32_43_r0 : BitVec 32 := 1#32
  let arg4_r0 : BitVec 32 := Scf.iv c0_i32_41_r0 c1_i32_43_r0 k0_t1
  let c7_i32_75_r0 : BitVec 32 := 7#32
  let v76_r0 : BitVec 1 := Scalar.cmpi .eq arg4_r0 c7_i32_75_r0
  let v140_r0 : BitVec 1 := Scalar.ori v139_r0 v76_r0
  let v141_r0 : BitVec 32 := Scalar.extui v140_r0
  let c0_i32_118_r0 : BitVec 32 := 0#32
  let v142_r0 : BitVec 1 := Scalar.cmpi .ne v141_r0 c0_i32_118_r0
  v142_r0

def k0_off16 (arg10_r0 : BitVec 32) : Fin 2 → Nat :=
  let c2048_i32_134_r0 : BitVec 32 := 2048#32
  let c0_i32_76_r0 : BitVec 32 := 0#32
  let v77_r0 : BitVec 32 := Scalar.addi arg10_r0 c0_i32_76_r0
  let v169_r0 : BitVec 32 := Scalar.muli c2048_i32_134_r0 v77_r0
  let c0_i32_135_r0 : BitVec 32 := 0#32
  ![v169_r0.toNat, 0]
def k0_off17 (arg8_r0 : BitVec 32) : Fin 3 → Nat :=
  let c2_i32_133_r0 : BitVec 32 := 2#32
  let v168_r0 : BitVec 32 := Scalar.remui arg8_r0 c2_i32_133_r0
  let c0_i32_136_r0 : BitVec 32 := 0#32
  let c0_i32_137_r0 : BitVec 32 := 0#32
  ![v168_r0.toNat, 0, 0]
def k0_off18 (arg9_r0 : BitVec 32) : Fin 1 → Nat :=
  let c2_i32_133_r0 : BitVec 32 := 2#32
  let v168_r0 : BitVec 32 := Scalar.remui arg9_r0 c2_i32_133_r0
  ![v168_r0.toNat]
def k0_cond8 (k0_t1 : Fin k0_t1_loop.trips) (arg10_r0 : BitVec 32) : BitVec 1 :=
  let c0_i32_76_r0 : BitVec 32 := 0#32
  let v77_r0 : BitVec 32 := Scalar.addi arg10_r0 c0_i32_76_r0
  let true_78_r0 : BitVec 1 := 1#1
  let c1_i32_77_r0 : BitVec 32 := 1#32
  let v78_r0 : BitVec 32 := Scalar.subi arg10_r0 c1_i32_77_r0
  let v79_r0 : BitVec 32 := Scalar.select true_78_r0 v78_r0 arg10_r0
  let c_m1_i32_79_r0 : BitVec 32 := 4294967295#32
  let v80_r0 : BitVec 1 := Scalar.cmpi .eq v79_r0 c_m1_i32_79_r0
  let c7_i32_80_r0 : BitVec 32 := 7#32
  let v81_r0 : BitVec 32 := Scalar.select v80_r0 c7_i32_80_r0 v79_r0
  let c0_i32_81_r0 : BitVec 32 := 0#32
  let v82_r0 : BitVec 32 := Scalar.addi v81_r0 c0_i32_81_r0
  let v152_r0 : BitVec 1 := Scalar.cmpi .ne v77_r0 v82_r0
  let c0_i32_41_r0 : BitVec 32 := 0#32
  let c1_i32_43_r0 : BitVec 32 := 1#32
  let arg4_r0 : BitVec 32 := Scf.iv c0_i32_41_r0 c1_i32_43_r0 k0_t1
  let c0_i32_74_r0 : BitVec 32 := 0#32
  let v75_r0 : BitVec 1 := Scalar.cmpi .eq arg4_r0 c0_i32_74_r0
  let true_124_r0 : BitVec 1 := 1#1
  let v153_r0 : BitVec 1 := Scalar.xori v75_r0 true_124_r0
  let v154_r0 : BitVec 1 := Scalar.andi v152_r0 v153_r0
  let v155_r0 : BitVec 32 := Scalar.extui v154_r0
  let c0_i32_125_r0 : BitVec 32 := 0#32
  let v156_r0 : BitVec 1 := Scalar.cmpi .ne v155_r0 c0_i32_125_r0
  v156_r0

def k0_off19 (arg10_r0 : BitVec 32) : Fin 2 → Nat :=
  let c2048_i32_134_r0 : BitVec 32 := 2048#32
  let true_78_r0 : BitVec 1 := 1#1
  let c1_i32_77_r0 : BitVec 32 := 1#32
  let v78_r0 : BitVec 32 := Scalar.subi arg10_r0 c1_i32_77_r0
  let v79_r0 : BitVec 32 := Scalar.select true_78_r0 v78_r0 arg10_r0
  let c_m1_i32_79_r0 : BitVec 32 := 4294967295#32
  let v80_r0 : BitVec 1 := Scalar.cmpi .eq v79_r0 c_m1_i32_79_r0
  let c7_i32_80_r0 : BitVec 32 := 7#32
  let v81_r0 : BitVec 32 := Scalar.select v80_r0 c7_i32_80_r0 v79_r0
  let c0_i32_81_r0 : BitVec 32 := 0#32
  let v82_r0 : BitVec 32 := Scalar.addi v81_r0 c0_i32_81_r0
  let v169_r0 : BitVec 32 := Scalar.muli c2048_i32_134_r0 v82_r0
  let c0_i32_135_r0 : BitVec 32 := 0#32
  ![v169_r0.toNat, 0]
def k0_off20 (arg9_r0 : BitVec 32) : Fin 3 → Nat :=
  let c2_i32_133_r0 : BitVec 32 := 2#32
  let v168_r0 : BitVec 32 := Scalar.remui arg9_r0 c2_i32_133_r0
  let c0_i32_136_r0 : BitVec 32 := 0#32
  let c0_i32_137_r0 : BitVec 32 := 0#32
  ![v168_r0.toNat, 0, 0]

def k0_chk5 (k0_t1 : Fin k0_t1_loop.trips) (arg6_r0 : BitVec 32) (arg8_r0 : BitVec 32) (arg9_r0 : BitVec 32) (arg10_r0 : BitVec 32) : Prop :=
  (∀ (k0_h3 : k0_cond3 k0_t1 arg10_r0 = 1#1), ∀ a, (k0_off10 arg6_r0) a + S1.size a ≤ S3.size a) ∧
  (∀ (k0_h3 : k0_cond3 k0_t1 arg10_r0 = 1#1), ∀ a, (k0_off11 arg6_r0) a + S1x2048x2048.size a ≤ S3x2048x2048.size a) ∧
  (∀ (k0_h3 : k0_cond3 k0_t1 arg10_r0 = 1#1), ∀ a, (k0_off12 arg10_r0) a + S2048x2048.size a ≤ S16384x2048.size a) ∧
  (∀ (k0_h6 : k0_cond6 k0_t1 arg10_r0 = 1#1), ∀ a, (k0_off15 arg8_r0) a + S1.size a ≤ S2.size a) ∧
  (∀ (k0_h6 : k0_cond6 k0_t1 arg10_r0 = 1#1), ∀ a, (k0_off16 arg10_r0) a + S2048x64.size a ≤ S16384x64.size a) ∧
  (∀ (k0_h6 : k0_cond6 k0_t1 arg10_r0 = 1#1), ∀ a, (k0_off17 arg8_r0) a + S1x2048x64.size a ≤ S2x2048x64.size a) ∧
  (∀ (k0_h8 : k0_cond8 k0_t1 arg10_r0 = 1#1), ∀ a, (k0_off18 arg9_r0) a + S1.size a ≤ S2.size a) ∧
  (∀ (k0_h8 : k0_cond8 k0_t1 arg10_r0 = 1#1), ∀ a, (k0_off19 arg10_r0) a + S2048x64.size a ≤ S16384x64.size a) ∧
  (∀ (k0_h8 : k0_cond8 k0_t1 arg10_r0 = 1#1), ∀ a, (k0_off20 arg9_r0) a + S1x2048x64.size a ≤ S2x2048x64.size a)
theorem k0_off10_inb : ∀ (k0_t1 : Fin k0_t1_loop.trips) (arg6_r0 : BitVec 32) (arg8_r0 : BitVec 32) (arg9_r0 : BitVec 32) (arg10_r0 : BitVec 32) (k0_hw5 : k0_chk5 k0_t1 arg6_r0 arg8_r0 arg9_r0 arg10_r0), ∀ (k0_h3 : k0_cond3 k0_t1 arg10_r0 = 1#1), ∀ a, (k0_off10 arg6_r0) a + S1.size a ≤ S3.size a := fun k0_t1 arg6_r0 arg8_r0 arg9_r0 arg10_r0 k0_hw5 k0_h3 => k0_hw5.1 k0_h3
theorem k0_off11_inb : ∀ (k0_t1 : Fin k0_t1_loop.trips) (arg6_r0 : BitVec 32) (arg8_r0 : BitVec 32) (arg9_r0 : BitVec 32) (arg10_r0 : BitVec 32) (k0_hw5 : k0_chk5 k0_t1 arg6_r0 arg8_r0 arg9_r0 arg10_r0), ∀ (k0_h3 : k0_cond3 k0_t1 arg10_r0 = 1#1), ∀ a, (k0_off11 arg6_r0) a + S1x2048x2048.size a ≤ S3x2048x2048.size a := fun k0_t1 arg6_r0 arg8_r0 arg9_r0 arg10_r0 k0_hw5 k0_h3 => k0_hw5.2.1 k0_h3
theorem k0_off12_inb : ∀ (k0_t1 : Fin k0_t1_loop.trips) (arg6_r0 : BitVec 32) (arg8_r0 : BitVec 32) (arg9_r0 : BitVec 32) (arg10_r0 : BitVec 32) (k0_hw5 : k0_chk5 k0_t1 arg6_r0 arg8_r0 arg9_r0 arg10_r0), ∀ (k0_h3 : k0_cond3 k0_t1 arg10_r0 = 1#1), ∀ a, (k0_off12 arg10_r0) a + S2048x2048.size a ≤ S16384x2048.size a := fun k0_t1 arg6_r0 arg8_r0 arg9_r0 arg10_r0 k0_hw5 k0_h3 => k0_hw5.2.2.1 k0_h3
theorem k0_off15_inb : ∀ (k0_t1 : Fin k0_t1_loop.trips) (arg6_r0 : BitVec 32) (arg8_r0 : BitVec 32) (arg9_r0 : BitVec 32) (arg10_r0 : BitVec 32) (k0_hw5 : k0_chk5 k0_t1 arg6_r0 arg8_r0 arg9_r0 arg10_r0), ∀ (k0_h6 : k0_cond6 k0_t1 arg10_r0 = 1#1), ∀ a, (k0_off15 arg8_r0) a + S1.size a ≤ S2.size a := fun k0_t1 arg6_r0 arg8_r0 arg9_r0 arg10_r0 k0_hw5 k0_h6 => k0_hw5.2.2.2.1 k0_h6
theorem k0_off16_inb : ∀ (k0_t1 : Fin k0_t1_loop.trips) (arg6_r0 : BitVec 32) (arg8_r0 : BitVec 32) (arg9_r0 : BitVec 32) (arg10_r0 : BitVec 32) (k0_hw5 : k0_chk5 k0_t1 arg6_r0 arg8_r0 arg9_r0 arg10_r0), ∀ (k0_h6 : k0_cond6 k0_t1 arg10_r0 = 1#1), ∀ a, (k0_off16 arg10_r0) a + S2048x64.size a ≤ S16384x64.size a := fun k0_t1 arg6_r0 arg8_r0 arg9_r0 arg10_r0 k0_hw5 k0_h6 => k0_hw5.2.2.2.2.1 k0_h6
theorem k0_off17_inb : ∀ (k0_t1 : Fin k0_t1_loop.trips) (arg6_r0 : BitVec 32) (arg8_r0 : BitVec 32) (arg9_r0 : BitVec 32) (arg10_r0 : BitVec 32) (k0_hw5 : k0_chk5 k0_t1 arg6_r0 arg8_r0 arg9_r0 arg10_r0), ∀ (k0_h6 : k0_cond6 k0_t1 arg10_r0 = 1#1), ∀ a, (k0_off17 arg8_r0) a + S1x2048x64.size a ≤ S2x2048x64.size a := fun k0_t1 arg6_r0 arg8_r0 arg9_r0 arg10_r0 k0_hw5 k0_h6 => k0_hw5.2.2.2.2.2.1 k0_h6
theorem k0_off18_inb : ∀ (k0_t1 : Fin k0_t1_loop.trips) (arg6_r0 : BitVec 32) (arg8_r0 : BitVec 32) (arg9_r0 : BitVec 32) (arg10_r0 : BitVec 32) (k0_hw5 : k0_chk5 k0_t1 arg6_r0 arg8_r0 arg9_r0 arg10_r0), ∀ (k0_h8 : k0_cond8 k0_t1 arg10_r0 = 1#1), ∀ a, (k0_off18 arg9_r0) a + S1.size a ≤ S2.size a := fun k0_t1 arg6_r0 arg8_r0 arg9_r0 arg10_r0 k0_hw5 k0_h8 => k0_hw5.2.2.2.2.2.2.1 k0_h8
theorem k0_off19_inb : ∀ (k0_t1 : Fin k0_t1_loop.trips) (arg6_r0 : BitVec 32) (arg8_r0 : BitVec 32) (arg9_r0 : BitVec 32) (arg10_r0 : BitVec 32) (k0_hw5 : k0_chk5 k0_t1 arg6_r0 arg8_r0 arg9_r0 arg10_r0), ∀ (k0_h8 : k0_cond8 k0_t1 arg10_r0 = 1#1), ∀ a, (k0_off19 arg10_r0) a + S2048x64.size a ≤ S16384x64.size a := fun k0_t1 arg6_r0 arg8_r0 arg9_r0 arg10_r0 k0_hw5 k0_h8 => k0_hw5.2.2.2.2.2.2.2.1 k0_h8
theorem k0_off20_inb : ∀ (k0_t1 : Fin k0_t1_loop.trips) (arg6_r0 : BitVec 32) (arg8_r0 : BitVec 32) (arg9_r0 : BitVec 32) (arg10_r0 : BitVec 32) (k0_hw5 : k0_chk5 k0_t1 arg6_r0 arg8_r0 arg9_r0 arg10_r0), ∀ (k0_h8 : k0_cond8 k0_t1 arg10_r0 = 1#1), ∀ a, (k0_off20 arg9_r0) a + S1x2048x64.size a ≤ S2x2048x64.size a := fun k0_t1 arg6_r0 arg8_r0 arg9_r0 arg10_r0 k0_hw5 k0_h8 => k0_hw5.2.2.2.2.2.2.2.2 k0_h8

def k0_off21 (v42_4_r0 : BitVec 32) : Fin 1 → Nat :=
  let c2_i32_r0 : BitVec 32 := 2#32
  let v68_r0 : BitVec 32 := Scalar.remui v42_4_r0 c2_i32_r0
  ![v68_r0.toNat]

def k0_off22 (v42_5_r0 : BitVec 32) : Fin 2 → Nat :=
  let c2048_i32_70_r0 : BitVec 32 := 2048#32
  let true_46_r0 : BitVec 1 := 1#1
  let c1_i32_45_r0 : BitVec 32 := 1#32
  let v43_r0 : BitVec 32 := Scalar.subi v42_5_r0 c1_i32_45_r0
  let v44_r0 : BitVec 32 := Scalar.select true_46_r0 v43_r0 v42_5_r0
  let c_m1_i32_47_r0 : BitVec 32 := 4294967295#32
  let v45_r0 : BitVec 1 := Scalar.cmpi .eq v44_r0 c_m1_i32_47_r0
  let c7_i32_48_r0 : BitVec 32 := 7#32
  let v46_r0 : BitVec 32 := Scalar.select v45_r0 c7_i32_48_r0 v44_r0
  let c0_i32_49_r0 : BitVec 32 := 0#32
  let v47_r0 : BitVec 32 := Scalar.addi v46_r0 c0_i32_49_r0
  let v69_r0 : BitVec 32 := Scalar.muli c2048_i32_70_r0 v47_r0
  let c0_i32_71_r0 : BitVec 32 := 0#32
  ![v69_r0.toNat, 0]

def k0_chk9 (v42_5_r0 : BitVec 32) : Prop :=
  (∀ a, (k0_off22 v42_5_r0) a + S2048x64.size a ≤ S16384x64.size a)
theorem k0_off22_inb : ∀ (v42_5_r0 : BitVec 32) (k0_hw9 : k0_chk9 v42_5_r0), ∀ a, (k0_off22 v42_5_r0) a + S2048x64.size a ≤ S16384x64.size a := fun v42_5_r0 k0_hw9 => k0_hw9

def k0_off23 (v42_4_r0 : BitVec 32) : Fin 3 → Nat :=
  let c2_i32_r0 : BitVec 32 := 2#32
  let v68_r0 : BitVec 32 := Scalar.remui v42_4_r0 c2_i32_r0
  let c0_i32_72_r0 : BitVec 32 := 0#32
  let c0_i32_73_r0 : BitVec 32 := 0#32
  ![v68_r0.toNat, 0, 0]

def k0_chk8 (v42_4_r0 : BitVec 32) : Prop :=
  (∀ a, (k0_off21 v42_4_r0) a + S1.size a ≤ S2.size a) ∧
  (∀ a, (k0_off23 v42_4_r0) a + S1x2048x64.size a ≤ S2x2048x64.size a)
theorem k0_off21_inb : ∀ (v42_4_r0 : BitVec 32) (k0_hw8 : k0_chk8 v42_4_r0), ∀ a, (k0_off21 v42_4_r0) a + S1.size a ≤ S2.size a := fun v42_4_r0 k0_hw8 => k0_hw8.1
theorem k0_off23_inb : ∀ (v42_4_r0 : BitVec 32) (k0_hw8 : k0_chk8 v42_4_r0), ∀ a, (k0_off23 v42_4_r0) a + S1x2048x64.size a ≤ S2x2048x64.size a := fun v42_4_r0 k0_hw8 => k0_hw8.2

abbrev stage0_0 : Fin 1 → Memref sig .tc .vmem S2048x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16384x2048 : Shape := ⟨2, ![16384, 2048]⟩
abbrev S16x2048 : Shape := ⟨2, ![16, 2048]⟩
abbrev S64x16 : Shape := ⟨2, ![64, 16]⟩
abbrev S2048x16 : Shape := ⟨2, ![2048, 16]⟩
abbrev S16384x16 : Shape := ⟨2, ![16384, 16]⟩
abbrev S16x64 : Shape := ⟨2, ![16, 64]⟩
abbrev S16384x64 : Shape := ⟨2, ![16384, 64]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16x2048, .f32⟩
  | .hbm, ⟨2, _⟩ => ⟨S64x16, .f32⟩
  | .hbm, ⟨3, _⟩ => ⟨S2048x16, .f32⟩
  | .hbm, ⟨4, _⟩ => ⟨S16384x16, .f32⟩
  | .hbm, ⟨5, _⟩ => ⟨S16x64, .f32⟩
  | .hbm, ⟨6, _⟩ => ⟨S16384x64, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Words.lean ====
/-
  The words the pipelined kernel carries from trip to trip, in closed form. The kernel keeps six 32-bit counters across
  its eight trips (issue counter, wait counter, last block fetched, output copies started, output copies waited, block
  index). Before trip `k` they are the numerals of `min (k + 2) 8`, `k`, `min (k + 1) 7`, `k`, `k - 1` and `k % 8`.
  Everything the kernel computes from them (slot numbers, row offsets, conditions, range checks) is a closed word at
  each of the eight trips, so each fact below is decided trip by trip.
-/
module

public import proofs.«01_k».proof.Defs
public import proofs.«01_k».proof.Proof.Gen.KernelIdeal.Skeleton
public import Idealize.ShloMosaic.Lib.Ring.Trips

@[expose] public section

noncomputable section

namespace Cert.Proof.Stream

open Cert.KernelIdeal Cert.KernelIdeal.Gen
open Idealize.ShloMosaic

/-- The numeral `n` as a 32-bit word. -/
abbrev W (n : ℕ) : BitVec 32 := BitVec.ofNat 32 n

/-! ## Where the slots, cells and blocks lie -/

/-- Input slot `s` begins at plane `s` of the three-plane buffer. -/
abbrev inSlotOff (s : Fin 3) : Fin 3 → Nat := ![s.val, 0, 0]
/-- Output slot `s` begins at plane `s` of the two-plane buffer. -/
abbrev outSlotOff (s : Fin 2) : Fin 3 → Nat := ![s.val, 0, 0]
/-- Cell `s` of the input ring. -/
abbrev inCellOff (s : Fin 3) : Fin 1 → Nat := ![s.val]
/-- Cell `s` of the output ring. -/
abbrev outCellOff (s : Fin 2) : Fin 1 → Nat := ![s.val]
/-- Block `b` begins at row `2048 b`, in the input and in the output. -/
abbrev blkOff (b : Fin 8) : Fin 2 → Nat := ![2048 * b.val, 0]

theorem inSlotOff_inb (s : Fin 3) : ∀ a, inSlotOff s a + S1x2048x2048.size a ≤ S3x2048x2048.size a := by
  revert s; decide
theorem outSlotOff_inb (s : Fin 2) : ∀ a, outSlotOff s a + S1x2048x64.size a ≤ S2x2048x64.size a := by
  revert s; decide
theorem inCellOff_inb (s : Fin 3) : ∀ a, inCellOff s a + S1.size a ≤ S3.size a := by
  revert s; decide
theorem outCellOff_inb (s : Fin 2) : ∀ a, outCellOff s a + S1.size a ≤ S2.size a := by
  revert s; decide
theorem inBlkOff_inb (b : Fin 8) : ∀ a, blkOff b a + S2048x2048.size a ≤ S16384x2048.size a := by
  revert b; decide
theorem outBlkOff_inb (b : Fin 8) : ∀ a, blkOff b a + S2048x64.size a ≤ S16384x64.size a := by
  revert b; decide

/-! ## The offsets a trip computes -/

/-- A fact of every number below eight, from a check of each. -/
theorem below8 {p : ℕ → Prop} (h : ∀ k : Fin 8, p k.val) (k : ℕ) (hk : k < 8) : p k := h ⟨k, hk⟩

theorem trips_eq : k0_t1_loop.trips = 8 := by decide

theorem off1_eq : k0_off1 = inCellOff 0 := by decide
theorem off2_eq : k0_off2 = inSlotOff 0 := by decide
theorem off3_eq : k0_off3 = blkOff 0 := by decide

theorem off4_eq : k0_off4 (W 1) = inCellOff 1 := by decide
theorem off5_eq : k0_off5 (W 1) = inSlotOff 1 := by decide
theorem off6_eq : k0_off6 (W 1) = blkOff 1 := by decide

theorem off7_eq (k : ℕ) (hk : k < 8) : k0_off7 (W k) = inCellOff (Ring.sl 3 k) :=
  below8 (p := fun k => k0_off7 (W k) = inCellOff (Ring.sl 3 k)) (by decide) k hk
theorem off8_eq (k : ℕ) (hk : k < 8) : k0_off8 (W k) = inSlotOff (Ring.sl 3 k) :=
  below8 (p := fun k => k0_off8 (W k) = inSlotOff (Ring.sl 3 k)) (by decide) k hk
theorem off9_eq (k : ℕ) (hk : k < 8) : k0_off9 (W k) = blkOff (Ring.bk 8 k) :=
  below8 (p := fun k => k0_off9 (W k) = blkOff (Ring.bk 8 k)) (by decide) k hk
theorem off10_eq (k : ℕ) (hk : k < 8) : k0_off10 (W k) = inCellOff (Ring.sl 3 k) :=
  below8 (p := fun k => k0_off10 (W k) = inCellOff (Ring.sl 3 k)) (by decide) k hk
theorem off11_eq (k : ℕ) (hk : k < 8) : k0_off11 (W k) = inSlotOff (Ring.sl 3 k) :=
  below8 (p := fun k => k0_off11 (W k) = inSlotOff (Ring.sl 3 k)) (by decide) k hk
theorem off12_eq (k : ℕ) (hk : k < 8) : k0_off12 (W k) = blkOff (Ring.bk 8 k) :=
  below8 (p := fun k => k0_off12 (W k) = blkOff (Ring.bk 8 k)) (by decide) k hk
theorem off13_eq (k : ℕ) (hk : k < 8) : k0_off13 (W k) = inSlotOff (Ring.sl 3 k) :=
  below8 (p := fun k => k0_off13 (W k) = inSlotOff (Ring.sl 3 k)) (by decide) k hk
theorem off14_eq (k : ℕ) (hk : k < 8) : k0_off14 (W k) = outSlotOff (Ring.sl 2 k) :=
  below8 (p := fun k => k0_off14 (W k) = outSlotOff (Ring.sl 2 k)) (by decide) k hk
theorem off15_eq (k : ℕ) (hk : k < 8) : k0_off15 (W k) = outCellOff (Ring.sl 2 k) :=
  below8 (p := fun k => k0_off15 (W k) = outCellOff (Ring.sl 2 k)) (by decide) k hk
theorem off16_eq (k : ℕ) (hk : k < 8) : k0_off16 (W k) = blkOff (Ring.bk 8 k) :=
  below8 (p := fun k => k0_off16 (W k) = blkOff (Ring.bk 8 k)) (by decide) k hk
theorem off17_eq (k : ℕ) (hk : k < 8) : k0_off17 (W k) = outSlotOff (Ring.sl 2 k) :=
  below8 (p := fun k => k0_off17 (W k) = outSlotOff (Ring.sl 2 k)) (by decide) k hk
theorem off18_eq (k : ℕ) (hk : k < 8) : k0_off18 (W k) = outCellOff (Ring.sl 2 k) :=
  below8 (p := fun k => k0_off18 (W k) = outCellOff (Ring.sl 2 k)) (by decide) k hk
theorem off19_eq (k : ℕ) (h1 : 1 ≤ k) (hk : k < 8) : k0_off19 (W k) = blkOff (Ring.bk 8 (k - 1)) :=
  below8 (p := fun k => 1 ≤ k → k0_off19 (W k) = blkOff (Ring.bk 8 (k - 1))) (by decide) k hk h1
theorem off20_eq (k : ℕ) (hk : k < 8) : k0_off20 (W k) = outSlotOff (Ring.sl 2 k) :=
  below8 (p := fun k => k0_off20 (W k) = outSlotOff (Ring.sl 2 k)) (by decide) k hk

theorem off21_eq : k0_off21 (W 7) = outCellOff 1 := by decide
theorem off22_eq : k0_off22 (W 0) = blkOff 7 := by decide
theorem off23_eq : k0_off23 (W 7) = outSlotOff 1 := by decide

/-! ## The checks and the conditions -/

/-- A trip's number as one of the loop's trips. -/
abbrev trip (k : ℕ) (hk : k < 8) : Fin k0_t1_loop.trips := ⟨k, trips_eq ▸ hk⟩

theorem chk1_lit : k0_chk1 (W 0) (W 1) (W 1) := by decide
theorem chk2_lit : k0_chk2 (W 0) (W 1) := by decide
theorem cond1_lit : k0_cond1 (W 0) (W 1) = 1#1 := by decide

theorem chk3_eq (k : ℕ) (hk : k < 6) : k0_chk3 (W (k + 1)) (W (k + 2)) (W (k + 2)) :=
  below8 (p := fun k => k < 6 → k0_chk3 (W (k + 1)) (W (k + 2)) (W (k + 2))) (by decide) k (by omega) hk
theorem chk4_eq (k : ℕ) (hk : k < 6) : k0_chk4 (W (k + 1)) (W (k + 2)) :=
  below8 (p := fun k => k < 6 → k0_chk4 (W (k + 1)) (W (k + 2))) (by decide) k (by omega) hk
theorem cond2_eq (k : ℕ) (hk : k < 6) : k0_cond2 (W (k + 1)) (W (k + 2)) = 1#1 :=
  below8 (p := fun k => k < 6 → k0_cond2 (W (k + 1)) (W (k + 2)) = 1#1) (by decide) k (by omega) hk
theorem chk5_eq (k : ℕ) (hk : k < 8) : k0_chk5 (trip k hk) (W k) (W k) (W (k - 1)) (W k) :=
  (by decide : ∀ k : Fin 8, k0_chk5 (trip k.val k.isLt) (W k) (W k) (W (k - 1)) (W k)) ⟨k, hk⟩
theorem chk6_eq (k : ℕ) (hk : k < 8) : k0_chk6 (W k) :=
  below8 (p := fun k => k0_chk6 (W k)) (by decide) k hk
theorem chk7_eq (k : ℕ) (hk : k < 8) : k0_chk7 (W k) :=
  below8 (p := fun k => k0_chk7 (W k)) (by decide) k hk
theorem chk8_lit : k0_chk8 (W 7) := by decide
theorem chk9_lit : k0_chk9 (W 0) := by decide

theorem cond3_eq (k : ℕ) (hk : k < 8) : k0_cond3 (trip k hk) (W k) = 1#1 :=
  (by decide : ∀ k : Fin 8, k0_cond3 (trip k.val k.isLt) (W k) = 1#1) ⟨k, hk⟩
theorem cond6_eq (k : ℕ) (hk : k < 8) : k0_cond6 (trip k hk) (W k) = 1#1 :=
  (by decide : ∀ k : Fin 8, k0_cond6 (trip k.val k.isLt) (W k) = 1#1) ⟨k, hk⟩
theorem cond8_eq (k : ℕ) (h1 : 1 ≤ k) (hk : k < 8) : k0_cond8 (trip k hk) (W k) = 1#1 :=
  (by decide : ∀ k : Fin 8, 1 ≤ k.val → k0_cond8 (trip k.val k.isLt) (W k) = 1#1) ⟨k, hk⟩ h1
theorem cond8_zero : ¬k0_cond8 (trip 0 (by decide)) (W 0) = 1#1 := by decide

/-! ## The carried words, one trip on -/

/-- The look-ahead loop goes on while a block is left and its counter is behind the wait counter plus three; -/
theorem ahead_go (k : ℕ) (hk : k < 6) :
    Scalar.andi (Scalar.andi 1#1 (Scalar.cmpi .ult (W (k + 2)) (W (k + 3)))) (Scalar.andi 1#1 (Scalar.cmpi .slt (W (k + 2)) 8#32)) = 1#1 :=
  below8 (p := fun k => k < 6 → Scalar.andi (Scalar.andi 1#1 (Scalar.cmpi .ult (W (k + 2)) (W (k + 3)))) (Scalar.andi 1#1 (Scalar.cmpi .slt (W (k + 2)) 8#32)) = 1#1)
    (by decide) k (by omega) hk
/-- it stops with its counter at the bound. -/
theorem ahead_stop (k : ℕ) (hk : k < 6) :
    ¬Scalar.andi (Scalar.andi 1#1 (Scalar.cmpi .ult (W (k + 3)) (W (k + 3)))) (Scalar.andi 1#1 (Scalar.cmpi .slt (W (k + 3)) 8#32)) = 1#1 :=
  below8 (p := fun k => ¬Scalar.andi (Scalar.andi 1#1 (Scalar.cmpi .ult (W (k + 3)) (W (k + 3)))) (Scalar.andi 1#1 (Scalar.cmpi .slt (W (k + 3)) 8#32)) = 1#1) (by decide) k (by omega)
theorem ahead_next12 (k : ℕ) (hk : k < 6) :
    Scalar.select 0#1 0#32 (Scalar.select 1#1 (Scalar.addi (W (k + 2)) 1#32) (W (k + 2))) = W (k + 3) :=
  below8 (p := fun k => Scalar.select 0#1 0#32 (Scalar.select 1#1 (Scalar.addi (W (k + 2)) 1#32) (W (k + 2))) = W (k + 3)) (by decide) k (by omega)
theorem ahead_next13 (k : ℕ) (hk : k < 6) :
    Scalar.addi (W (k + 2)) (Scalar.extui (Scalar.cmpi .ne (Scalar.addi (W (k + 1)) 0#32) (Scalar.addi (W (k + 2)) 0#32))) = W (k + 3) :=
  below8 (p := fun k => Scalar.addi (W (k + 2)) (Scalar.extui (Scalar.cmpi .ne (Scalar.addi (W (k + 1)) 0#32) (Scalar.addi (W (k + 2)) 0#32))) = W (k + 3)) (by decide) k (by omega)

end Cert.Proof.Stream

end
-- ==== Proof.Pieces.lean ====
/-
  The pieces of memory the pipelined kernel moves, and their names. The input `x` is cut into eight blocks of 2048 rows,
  streamed through a three-slot buffer in VMEM; the output is cut into eight blocks of 2048 rows, written back through a
  two-slot buffer. Each slot has its own DMA semaphore cell. The body names these by offsets it computes from the words it
  carries; the equations tagged `sl_canon` give each such slice its name here.
-/
module

public import proofs.«01_k».proof.Proof.Words
public import Idealize.ShloMosaic.Lib.Pipeline.Value
public import proofs.«01_k».proof.Proof.Gen.KernelIdeal.Launch
public import proofs.«01_k».proof.Proof.Gen.KernelIdeal.Loops
public import proofs.«01_k».proof.Proof.Gen.KernelIdeal.Points
public import Idealize.ShloMosaic.Lib.Pipeline.KitQuiescent
public import Idealize.ShloMosaic.Lib.Ring.Trips
public import Idealize.ShloMosaic.Lib.Tactic

@[expose] public section

noncomputable section

namespace Cert.Proof.Stream

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra: the pipeline's own, beside the counters the kernel's transfers ride on. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
/-- Calls descend along the natural numbers: each of the kernel's two `while` loops is entered once and re-entered at most
    once, so two levels are enough. -/
abbrev 𝒱₀ : Variants := Variants.nat

/-! ## Names -/

abbrev xM : Memref sig .tc .hbm S16384x2048 .f32 := Memref.whole main_arg0
abbrev oM : Memref sig .tc .hbm S16384x64 .f32 := Memref.whole main_v2
abbrev inM : Memref sig .tc .vmem S3x2048x2048 .f32 := Memref.whole cc0_scoped0
abbrev outM : Memref sig .tc .vmem S2x2048x64 .f32 := Memref.whole cc0_scoped2

/-- Block `b` of the input: rows `2048 b` to `2048 b + 2047`. -/
def xBlk (b : Fin 8) : Memref sig .tc .hbm S2048x2048 .f32 :=
  xM.slice (Rect.unit (s := S16384x2048) (blkOff b) S2048x2048.size (inBlkOff_inb b)) (fun _ => rfl)
/-- Block `b` of the output: rows `2048 b` to `2048 b + 2047`. -/
def oBlk (b : Fin 8) : Memref sig .tc .hbm S2048x64 .f32 :=
  oM.slice (Rect.unit (s := S16384x64) (blkOff b) S2048x64.size (outBlkOff_inb b)) (fun _ => rfl)
/-- Input slot `s`. -/
def inSlot (s : Fin 3) : Memref sig .tc .vmem S2048x2048 .f32 :=
  (inM.slice (Rect.unit (s := S3x2048x2048) (inSlotOff s) S1x2048x2048.size (inSlotOff_inb s)) (fun _ => rfl)).squeeze S2048x2048 squeezes_S1x2048x2048_S2048x2048
/-- Output slot `s`. -/
def outSlot (s : Fin 2) : Memref sig .tc .vmem S2048x64 .f32 :=
  (outM.slice (Rect.unit (s := S2x2048x64) (outSlotOff s) S1x2048x64.size (outSlotOff_inb s)) (fun _ => rfl)).squeeze S2048x64 squeezes_S1x2048x64_S2048x64
/-- Input slot `s`'s cell. -/
def inCell (s : Fin 3) : DmaSems sig S_ := (cc0_scoped1.slice (Rect.unit (s := S3) (inCellOff s) S1.size (inCellOff_inb s))).squeeze S_ squeezes_S1_S_
/-- Output slot `s`'s cell. -/
def outCell (s : Fin 2) : DmaSems sig S_ := (cc0_scoped3.slice (Rect.unit (s := S2) (outCellOff s) S1.size (outCellOff_inb s))).squeeze S_ squeezes_S1_S_

instance (s : Fin 3) : ClosedOff (inSlotOff s) := ⟨inSlotOff s, rfl⟩
instance (s : Fin 2) : ClosedOff (outSlotOff s) := ⟨outSlotOff s, rfl⟩

section Canon

private theorem inCell_congr {off : Fin 1 → Nat} {s : Fin 3} (e : off = inCellOff s) (hh) :
    (cc0_scoped1.slice (Rect.unit (s := S3) off S1.size hh)).squeeze S_ squeezes_S1_S_ = inCell s :=
  congrArg (fun A : DmaSems sig S1 => A.squeeze S_ squeezes_S1_S_) (SemArray.slice_unit_congr _ e _ _)
private theorem outCell_congr {off : Fin 1 → Nat} {s : Fin 2} (e : off = outCellOff s) (hh) :
    (cc0_scoped3.slice (Rect.unit (s := S2) off S1.size hh)).squeeze S_ squeezes_S1_S_ = outCell s :=
  congrArg (fun A : DmaSems sig S1 => A.squeeze S_ squeezes_S1_S_) (SemArray.slice_unit_congr _ e _ _)
private theorem inSlot_congr {off : Fin 3 → Nat} {s : Fin 3} (e : off = inSlotOff s) (hh hs) :
    (inM.slice (Rect.unit (s := S3x2048x2048) off S1x2048x2048.size hh) hs).squeeze S2048x2048 squeezes_S1x2048x2048_S2048x2048 = inSlot s :=
  congrArg (fun M : Memref sig .tc .vmem S1x2048x2048 .f32 => M.squeeze S2048x2048 squeezes_S1x2048x2048_S2048x2048) (Memref.slice_unit_congr _ e _ _ _ _)
private theorem outSlot_congr {off : Fin 3 → Nat} {s : Fin 2} (e : off = outSlotOff s) (hh hs) :
    (outM.slice (Rect.unit (s := S2x2048x64) off S1x2048x64.size hh) hs).squeeze S2048x64 squeezes_S1x2048x64_S2048x64 = outSlot s :=
  congrArg (fun M : Memref sig .tc .vmem S1x2048x64 .f32 => M.squeeze S2048x64 squeezes_S1x2048x64_S2048x64) (Memref.slice_unit_congr _ e _ _ _ _)
private theorem xBlk_congr {off : Fin 2 → Nat} {b : Fin 8} (e : off = blkOff b) (hh hs) :
    xM.slice (Rect.unit (s := S16384x2048) off S2048x2048.size hh) hs = xBlk b := Memref.slice_unit_congr _ e _ _ _ (fun _ => rfl)
private theorem oBlk_congr {off : Fin 2 → Nat} {b : Fin 8} (e : off = blkOff b) (hh hs) :
    oM.slice (Rect.unit (s := S16384x64) off S2048x64.size hh) hs = oBlk b := Memref.slice_unit_congr _ e _ _ _ (fun _ => rfl)

/-! The prologue: block 0 into slot 0, then block 1 into slot 1. -/

@[sl_canon] theorem inCell_p0 (hh) : (cc0_scoped1.slice (Rect.unit (s := S3) k0_off1 S1.size hh)).squeeze S_ squeezes_S1_S_ = inCell 0 := inCell_congr off1_eq _
@[sl_canon] theorem inSlot_p0 (hh hs) : (inM.slice (Rect.unit (s := S3x2048x2048) k0_off2 S1x2048x2048.size hh) hs).squeeze S2048x2048 squeezes_S1x2048x2048_S2048x2048 = inSlot 0 := inSlot_congr off2_eq _ _
@[sl_canon] theorem xBlk_p0 (hh hs) : xM.slice (Rect.unit (s := S16384x2048) k0_off3 S2048x2048.size hh) hs = xBlk 0 := xBlk_congr off3_eq _ _
@[sl_canon] theorem inCell_p1 (hh) : (cc0_scoped1.slice (Rect.unit (s := S3) (k0_off4 (W 1)) S1.size hh)).squeeze S_ squeezes_S1_S_ = inCell 1 := inCell_congr off4_eq _
@[sl_canon] theorem inSlot_p1 (hh hs) : (inM.slice (Rect.unit (s := S3x2048x2048) (k0_off5 (W 1)) S1x2048x2048.size hh) hs).squeeze S2048x2048 squeezes_S1x2048x2048_S2048x2048 = inSlot 1 := inSlot_congr off5_eq _ _
@[sl_canon] theorem xBlk_p1 (hh hs) : xM.slice (Rect.unit (s := S16384x2048) (k0_off6 (W 1)) S2048x2048.size hh) hs = xBlk 1 := xBlk_congr off6_eq _ _

/-! Trip `k`'s look-ahead: block `k + 2` into its slot. -/

@[sl_canon] theorem inCell_a (k : ℕ) (hk : k < 8) (hh) : (cc0_scoped1.slice (Rect.unit (s := S3) (k0_off7 (W k)) S1.size hh)).squeeze S_ squeezes_S1_S_ = inCell (Ring.sl 3 k) := inCell_congr (off7_eq k hk) _
@[sl_canon] theorem inSlot_a (k : ℕ) (hk : k < 8) (hh hs) : (inM.slice (Rect.unit (s := S3x2048x2048) (k0_off8 (W k)) S1x2048x2048.size hh) hs).squeeze S2048x2048 squeezes_S1x2048x2048_S2048x2048 = inSlot (Ring.sl 3 k) := inSlot_congr (off8_eq k hk) _ _
@[sl_canon] theorem xBlk_a (k : ℕ) (hk : k < 8) (hh hs) : xM.slice (Rect.unit (s := S16384x2048) (k0_off9 (W k)) S2048x2048.size hh) hs = xBlk (Ring.bk 8 k) := xBlk_congr (off9_eq k hk) _ _

/-! Trip `k`'s wait: block `k` in its slot. -/

@[sl_canon] theorem inCell_w (k : ℕ) (hk : k < 8) (hh) : (cc0_scoped1.slice (Rect.unit (s := S3) (k0_off10 (W k)) S1.size hh)).squeeze S_ squeezes_S1_S_ = inCell (Ring.sl 3 k) := inCell_congr (off10_eq k hk) _
@[sl_canon] theorem inSlot_w (k : ℕ) (hk : k < 8) (hh hs) : (inM.slice (Rect.unit (s := S3x2048x2048) (k0_off11 (W k)) S1x2048x2048.size hh) hs).squeeze S2048x2048 squeezes_S1x2048x2048_S2048x2048 = inSlot (Ring.sl 3 k) := inSlot_congr (off11_eq k hk) _ _
@[sl_canon] theorem xBlk_w (k : ℕ) (hk : k < 8) (hh hs) : xM.slice (Rect.unit (s := S16384x2048) (k0_off12 (W k)) S2048x2048.size hh) hs = xBlk (Ring.bk 8 k) := xBlk_congr (off12_eq k hk) _ _

/-! Trip `k`'s copy out, and its wait for the copy of trip `k - 1`. -/

@[sl_canon] theorem outCell_o (k : ℕ) (hk : k < 8) (hh) : (cc0_scoped3.slice (Rect.unit (s := S2) (k0_off15 (W k)) S1.size hh)).squeeze S_ squeezes_S1_S_ = outCell (Ring.sl 2 k) := outCell_congr (off15_eq k hk) _
@[sl_canon] theorem oBlk_o (k : ℕ) (hk : k < 8) (hh hs) : oM.slice (Rect.unit (s := S16384x64) (k0_off16 (W k)) S2048x64.size hh) hs = oBlk (Ring.bk 8 k) := oBlk_congr (off16_eq k hk) _ _
@[sl_canon] theorem outSlot_o (k : ℕ) (hk : k < 8) (hh hs) : (outM.slice (Rect.unit (s := S2x2048x64) (k0_off17 (W k)) S1x2048x64.size hh) hs).squeeze S2048x64 squeezes_S1x2048x64_S2048x64 = outSlot (Ring.sl 2 k) := outSlot_congr (off17_eq k hk) _ _
@[sl_canon] theorem outCell_v (k : ℕ) (hk : k < 8) (hh) : (cc0_scoped3.slice (Rect.unit (s := S2) (k0_off18 (W k)) S1.size hh)).squeeze S_ squeezes_S1_S_ = outCell (Ring.sl 2 k) := outCell_congr (off18_eq k hk) _
@[sl_canon] theorem oBlk_v (k : ℕ) (h1 : 1 ≤ k) (hk : k < 8) (hh hs) : oM.slice (Rect.unit (s := S16384x64) (k0_off19 (W k)) S2048x64.size hh) hs = oBlk (Ring.bk 8 (k - 1)) := oBlk_congr (off19_eq k h1 hk) _ _
@[sl_canon] theorem outSlot_v (k : ℕ) (hk : k < 8) (hh hs) : (outM.slice (Rect.unit (s := S2x2048x64) (k0_off20 (W k)) S1x2048x64.size hh) hs).squeeze S2048x64 squeezes_S1x2048x64_S2048x64 = outSlot (Ring.sl 2 k) := outSlot_congr (off20_eq k hk) _ _

/-! The epilogue: the last copy out. -/

@[sl_canon] theorem outCell_e (hh) : (cc0_scoped3.slice (Rect.unit (s := S2) (k0_off21 (W 7)) S1.size hh)).squeeze S_ squeezes_S1_S_ = outCell 1 := outCell_congr off21_eq _
@[sl_canon] theorem oBlk_e (hh hs) : oM.slice (Rect.unit (s := S16384x64) (k0_off22 (W 0)) S2048x64.size hh) hs = oBlk 7 := oBlk_congr off22_eq _ _
@[sl_canon] theorem outSlot_e (hh hs) : (outM.slice (Rect.unit (s := S2x2048x64) (k0_off23 (W 7)) S1x2048x64.size hh) hs).squeeze S2048x64 squeezes_S1x2048x64_S2048x64 = outSlot 1 := outSlot_congr off23_eq _ _

end Canon

/-! ## The pieces -/

section Pieces
variable (c : Dev nD) (XA : Buf (Elt F) (xM.view.loc (c : Thread nD τ)))

/-- Input slot `s`'s cell at zero. -/
abbrev inCellP (s : Fin 3) : sProp 𝕄 := semVal ((c : Thread nD τ), SemLoc.dma (inCell s).sem) 0
/-- Output slot `s`'s cell at zero. -/
abbrev outCellP (s : Fin 2) : sProp 𝕄 := semVal ((c : Thread nD τ), SemLoc.dma (outCell s).sem) 0
/-- Input slot `s` held at `f`. -/
abbrev inSlotP (s : Fin 3) (f : Buf (Elt F) ((inSlot s).view.loc (c : Thread nD τ))) : sProp 𝕄 :=
  (inSlot s).view.loc (c : Thread nD τ) ↦[(inSlot s).view.set]{fullShare} f
/-- Output slot `s` held at `f`. -/
abbrev outSlotP (s : Fin 2) (f : Buf (Elt F) ((outSlot s).view.loc (c : Thread nD τ))) : sProp 𝕄 :=
  (outSlot s).view.loc (c : Thread nD τ) ↦[(outSlot s).view.set]{fullShare} f
/-- Input block `b` at home, at the input's contents. -/
abbrev xP (b : Fin 8) : sProp 𝕄 := (xBlk b).view.loc (c : Thread nD τ) ↦[(xBlk b).view.set]{fullShare} XA
/-- Output block `b` held at `f`. -/
abbrev oP (b : Fin 8) (f : Buf (Elt F) ((oBlk b).view.loc (c : Thread nD τ))) : sProp 𝕄 :=
  (oBlk b).view.loc (c : Thread nD τ) ↦[(oBlk b).view.set]{fullShare} f

/-- Input block `b`'s words, as a transfer carries them. -/
abbrev xWords (b : Fin 8) : S2048x2048.Idx → Elt F .f32 := ReadAs.same.apply ((xBlk b).view.read (Elt F) XA)
/-- What block `b`'s transfer leaves in slot `s` over `f`. -/
abbrev landed (s : Fin 3) (b : Fin 8) (f : Buf (Elt F) ((inSlot s).view.loc (c : Thread nD τ))) : Buf (Elt F) ((inSlot s).view.loc (c : Thread nD τ)) :=
  (inSlot s).view.writes (Elt F) f [⟨Rect.whole S2048x2048, xWords c XA b⟩]
/-- Block `b` in flight into slot `s`, issued over `f`. -/
abbrev inFlightP (s : Fin 3) (b : Fin 8) (f : Buf (Elt F) ((inSlot s).view.loc (c : Thread nD τ))) : sProp 𝕄 :=
  Transfers.Flight countersEmb (c : Thread nD τ) (SemLoc.dma (inCell s).sem) () 524288 iprop(inSlotP c s (landed c XA s b f) ∗ xP c XA b)

/-- Input slot `s` free: held, its cell at zero. -/
abbrev inFree (s : Fin 3) : sProp 𝕄 := iprop((∃ f, inSlotP c s f) ∗ inCellP c s)
/-- The input slot that carries block `p`: in flight with it while there is such a block, else free. -/
abbrev inRole (p : ℕ) : sProp 𝕄 :=
  Ring.roleAt (NB := 8) (inFree c (Ring.sl 3 p)) (fun b => iprop(∃ f, inFlightP c XA (Ring.sl 3 p) b f)) p

variable (v1 : FVec F S2048x16 .f32) (v3 : FVec F S16x64 .f32)

/-- What the kernel computes of one block `x` of 2048 rows: the two matrix products. -/
def blockOut (x : FVec F S2048x2048 .f32) : FVec F S2048x64 .f32 :=
  matmul dot_S2048x16_S16x64_S2048x64_1_0_0_1_n_n none
    (matmul dot_S2048x2048_S2048x16_S2048x16_1_0_0_1_n_n none x v1 (constant S2048x16 .f32 0x00000000#32)) v3 (constant S2048x64 .f32 0x00000000#32)
/-- Output block `b`'s words. -/
abbrev oWords (b : Fin 8) : S2048x64.Idx → Elt F .f32 := blockOut v1 v3 (xWords c XA b)

/-- Output slot `s` free: held, its cell at zero. -/
abbrev outFree (s : Fin 2) : sProp 𝕄 := iprop((∃ f, outSlotP c s f) ∗ outCellP c s)
/-- Output block `b` in flight out of slot `s`, the slot at `f`, issued over `g`. -/
abbrev outFlightP (s : Fin 2) (b : Fin 8) (g : Buf (Elt F) ((oBlk b).view.loc (c : Thread nD τ))) (f : Buf (Elt F) ((outSlot s).view.loc (c : Thread nD τ))) : sProp 𝕄 :=
  Transfers.Flight countersEmb (c : Thread nD τ) (SemLoc.dma (outCell s).sem) () 32768
    iprop(oP c b ((oBlk b).view.writes (Elt F) g [⟨Rect.whole S2048x64, ReadAs.same.apply ((outSlot s).view.read (Elt F) f)⟩]) ∗ outSlotP c s f)
/-- Output block `b` in flight with its words. -/
abbrev outBusy (s : Fin 2) (b : Fin 8) : sProp 𝕄 :=
  iprop(∃ g f, ⌜(outSlot s).view.read (Elt F) f = oWords c XA v1 v3 b⌝ ∗ outFlightP c s b g f)
/-- Output block `b` not yet written. -/
abbrev oTodo (b : Fin 8) : sProp 𝕄 := iprop(∃ g, oP c b g)
/-- Output block `b` written. -/
abbrev oDone (b : Fin 8) : sProp 𝕄 := iprop(∃ g, ⌜(oBlk b).view.read (Elt F) g = oWords c XA v1 v3 b⌝ ∗ oP c b g)
/-- The output slot trip `k - 1` used: in flight once there was such a trip. -/
abbrev outRole (k : ℕ) : sProp 𝕄 :=
  Ring.roleBAt (NB := 8) 1 (outFree c (Ring.sl 2 (k + 1))) (outBusy c XA v1 v3 (Ring.sl 2 (k + 1))) k

/-- Everything the loop holds before trip `k`: input blocks `k` and `k + 1` in flight, the others at home; output blocks
    from `k` on not yet written, block `k - 1` in flight, those before it written. -/
def resAt (k : ℕ) : sProp 𝕄 :=
  iprop((∃ W, owes (c : Thread nD τ) 0 W)
    ∗ bigSep (Ring.homeSet 2 k) (xP c XA) ∗ inRole c XA k ∗ inRole c XA (k + 1) ∗ inFree c (Ring.sl 3 (k + 2))
    ∗ bigSep (Ring.aheadSet k) (oTodo c) ∗ bigSep (Ring.behindSet 1 k) (oDone c XA v1 v3) ∗ outFree c (Ring.sl 2 k) ∗ outRole c XA v1 v3 k)

/-! ## What a slot's load and store mean for the words -/

/-- A slot loaded after block `b` landed in it holds the block. -/
theorem load_slot {off : Fin 3 → Nat} {s : Fin 3} (e : off = inSlotOff s) (hh) (b : Fin 8) (f : Buf (Elt F) ((inSlot s).view.loc (c : Thread nD τ))) :
    shapeCast S2048x2048 (inM.view.readAt (Elt F) (Rect.unit (s := S3x2048x2048) off S1x2048x2048.size hh).toLoadRect (landed c XA s b f)) shapeCasts_S1x2048x2048_S2048x2048
      = xWords c XA b := by
  subst e
  exact View.read_writes_whole (inSlot s).view f (xWords c XA b)

/-- A slot read after a store to it holds the stored plane. -/
theorem store_slot {off : Fin 3 → Nat} {s : Fin 2} (e : off = outSlotOff s) (hh) (f : Buf (Elt F) ((outSlot s).view.loc (c : Thread nD τ))) (w : FVec F S1x2048x64 .f32) :
    (outSlot s).view.read (Elt F) ((outM.access (Rect.unit (s := S2x2048x64) off S1x2048x64.size hh)).write (Elt F) f w Finset.univ)
      = shapeCast S2048x64 w (squeezes_S1x2048x64_S2048x64.numel_eq) := by
  subst e
  funext x
  exact congrFun (View.read_write_univ (v := outM.access (Rect.unit (s := S2x2048x64) (outSlotOff s) S1x2048x64.size hh)) f w) _

/-- The slot a trip stores to, after its store, holds the output block's words. -/
theorem stored_words {off : Fin 3 → Nat} {s : Fin 2} (e : off = outSlotOff s) (hh) {off' : Fin 3 → Nat} {s' : Fin 3} (e' : off' = inSlotOff s') (hh') (b : Fin 8)
    (f : Buf (Elt F) ((outSlot s).view.loc (c : Thread nD τ))) (f' : Buf (Elt F) ((inSlot s').view.loc (c : Thread nD τ))) :
    (outSlot s).view.read (Elt F) ((outM.access (Rect.unit (s := S2x2048x64) off S1x2048x64.size hh)).write (Elt F) f
        (k0_pay1 v1 v3 (inM.view.readAt (Elt F) (Rect.unit (s := S3x2048x2048) off' S1x2048x2048.size hh').toLoadRect (landed c XA s' b f'))) Finset.univ)
      = oWords c XA v1 v3 b := by
  rw [store_slot c e]
  show shapeCast S2048x64 (shapeCast S1x2048x64 (blockOut v1 v3 (shapeCast S2048x2048 _ _)) _) _ = _
  rw [load_slot c XA e']
  exact Idealize.ShloMosaic.shapeCast_shapeCast _ _ _

end Pieces

end Cert.Proof.Stream

end
-- ==== Proof.While.lean ====
module

public import proofs.«01_k».proof.Proof.Pieces

@[expose] public section

noncomputable section

namespace Cert.Proof.Stream

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

variable (c : Dev nD) (XA : Buf (Elt F) (xM.view.loc (c : Thread nD τ)))

/-- The look-ahead loop's condition, as it computes it from the words it carries. -/
abbrev ahead2 (x102 x12 x13 : BitVec 32) : BitVec 1 :=
  Scalar.andi (Scalar.andi 1#1 (Scalar.cmpi .ult x13 x102)) (Scalar.andi 1#1 (Scalar.cmpi .slt x12 8#32))

/-- A call of the look-ahead loop, at the loop's body. -/
theorem call2_body {α : Type} (bd : Option 𝒱₀.V) (v : 𝒱₀.V) (hv : ∀ u ∈ bd, 𝒱₀.lt v u) (kt : Fin k0_t1_loop.trips) (x102 x11 x12 x13 : BitVec 32)
    (kk : BitVec 32 × BitVec 32 × BitVec 32 → Prog (TpuEff nD τ sig (Elt F) (Λ₀ F) .tc) α) (Q : α → sProp 𝕄) :
    wp frame (wpE (defs₀ (F := F)) 𝒱₀ (c : Thread nD τ) (some v)) Set.univ
        (cc0_while2 (F := F) kt x102 cc0_scoped1 inM (Memref.isWhole_whole _) xM (Memref.isWhole_whole _) x11 x12 x13)
        (fun r => wp frame (wpE (defs₀ (F := F)) 𝒱₀ (c : Thread nD τ) bd) Set.univ (kk r) Q)
      ⊢ wp frame (wpE (defs₀ (F := F)) 𝒱₀ (c : Thread nD τ) bd) Set.univ
          (.op (.call (2 : (Λ₀ F).Label) ⟨kt, x102, cc0_scoped1, inM, Memref.isWhole_whole _, xM, Memref.isWhole_whole _, x11, x12, x13⟩) kk) Q := by
  have row : defs₀ (F := F) (c : Thread nD τ).2 (2 : (Λ₀ F).Label) ⟨kt, x102, cc0_scoped1, inM, Memref.isWhole_whole _, xM, Memref.isWhole_whole _, x11, x12, x13⟩
      = cc0_while2 (F := F) kt x102 cc0_scoped1 inM (Memref.isWhole_whole _) xM (Memref.isWhole_whole _) x11 x12 x13 := rfl
  rw [← row]
  iintro H
  iapply (wp_call 𝒱₀ (c : Thread nD τ) bd Set.univ v hv)
  iexact H

/-- The look-ahead loop entered past its condition: it returns what it was given. -/
theorem call2_exit {α : Type} (bd : Option 𝒱₀.V) (v : 𝒱₀.V) (hv : ∀ u ∈ bd, 𝒱₀.lt v u) (kt : Fin k0_t1_loop.trips) (x102 x11 x12 x13 y11 y12 y13 : BitVec 32)
    (h11 : x11 = y11) (h12 : x12 = y12) (h13 : x13 = y13) (hn : ¬ahead2 x102 y12 y13 = 1#1)
    (kk : BitVec 32 × BitVec 32 × BitVec 32 → Prog (TpuEff nD τ sig (Elt F) (Λ₀ F) .tc) α) (Q : α → sProp 𝕄) :
    wp frame (wpE (defs₀ (F := F)) 𝒱₀ (c : Thread nD τ) bd) Set.univ (kk (y11, y12, y13)) Q
      ⊢ wp frame (wpE (defs₀ (F := F)) 𝒱₀ (c : Thread nD τ) bd) Set.univ
          (.op (.call (2 : (Λ₀ F).Label) ⟨kt, x102, cc0_scoped1, inM, Memref.isWhole_whole _, xM, Memref.isWhole_whole _, x11, x12, x13⟩) kk) Q := by
  subst h11 h12 h13
  iintro H
  iapply (call2_body c bd v hv)
  sl_unfold [cc0_while2]
  sl_exec
  iexact H

/-- The look-ahead loop entered at trip `k` with block `k + 2` still to fetch: it issues that block into the free slot, is
    entered once more and returns with its counters one further. -/
theorem call2_issue {α : Type} (k : ℕ) (hk : k < 6) (kt : Fin k0_t1_loop.trips) (x102 x11 x12 x13 : BitVec 32)
    (h102 : x102 = W (k + 3)) (h11 : x11 = W (k + 1)) (h12 : x12 = W (k + 2)) (h13 : x13 = W (k + 2))
    (f : Buf (Elt F) ((inSlot (Ring.sl 3 (k + 2))).view.loc (c : Thread nD τ)))
    (kk : BitVec 32 × BitVec 32 × BitVec 32 → Prog (TpuEff nD τ sig (Elt F) (Λ₀ F) .tc) α) (Q : α → sProp 𝕄) :
    iprop((inSlotP c (Ring.sl 3 (k + 2)) f ∗ inCellP c (Ring.sl 3 (k + 2)) ∗ xP c XA (Ring.bk 8 (k + 2)))
        ∗ (inFlightP c XA (Ring.sl 3 (k + 2)) (Ring.bk 8 (k + 2)) f
            -∗ wp frame (wpE (defs₀ (F := F)) 𝒱₀ (c : Thread nD τ) none) Set.univ (kk (W (k + 2), W (k + 3), W (k + 3))) Q))
      ⊢ wp frame (wpE (defs₀ (F := F)) 𝒱₀ (c : Thread nD τ) none) Set.univ
          (.op (.call (2 : (Λ₀ F).Label) ⟨kt, x102, cc0_scoped1, inM, Memref.isWhole_whole _, xM, Memref.isWhole_whole _, x11, x12, x13⟩) kk) Q := by
  subst h102 h11 h12 h13
  have hk8 : k + 2 < 8 := by omega
  have h3 := chk3_eq k hk
  have h4 := chk4_eq k hk
  have hc := cond2_eq k hk
  have hw : ahead2 (W (k + 3)) (W (k + 2)) (W (k + 2)) = 1#1 := ahead_go k hk
  iintro ⟨⟨HS, HC, HX⟩, HK⟩
  iapply (call2_body c none (1 : ℕ) (fun u hu => by cases hu))
  sl_unfold [cc0_while2]
  sl_exec
  iapply (call2_exit c _ (0 : ℕ) (fun u hu => by cases hu; exact Nat.zero_lt_one) _ _ _ _ _ _ _ _ rfl (ahead_next12 k hk) (ahead_next13 k hk) (ahead_stop k hk))
  sl_step
  iapply HK
  iexact HC

/-- The prologue loop's condition, as it computes it from the words it carries. -/
abbrev first1 (x5 x6 : BitVec 32) : BitVec 1 :=
  Scalar.andi (Scalar.andi 1#1 (Scalar.cmpi .ult x6 (Scalar.select (Scalar.cmpi .ult (Scalar.addi 0#32 3#32) (Scalar.addi (Scalar.addi 0#32 1#32) 1#32)) (Scalar.addi 0#32 3#32) (Scalar.addi (Scalar.addi 0#32 1#32) 1#32))))
    (Scalar.andi 1#1 (Scalar.cmpi .slt x5 8#32))

/-- A call of the prologue loop, at the loop's body. -/
theorem call1_body {α : Type} (bd : Option 𝒱₀.V) (v : 𝒱₀.V) (hv : ∀ u ∈ bd, 𝒱₀.lt v u) (x4 x5 x6 : BitVec 32)
    (kk : BitVec 32 × BitVec 32 × BitVec 32 → Prog (TpuEff nD τ sig (Elt F) (Λ₀ F) .tc) α) (Q : α → sProp 𝕄) :
    wp frame (wpE (defs₀ (F := F)) 𝒱₀ (c : Thread nD τ) (some v)) Set.univ
        (cc0_while1 (F := F) cc0_scoped1 inM (Memref.isWhole_whole _) xM (Memref.isWhole_whole _) x4 x5 x6)
        (fun r => wp frame (wpE (defs₀ (F := F)) 𝒱₀ (c : Thread nD τ) bd) Set.univ (kk r) Q)
      ⊢ wp frame (wpE (defs₀ (F := F)) 𝒱₀ (c : Thread nD τ) bd) Set.univ
          (.op (.call (1 : (Λ₀ F).Label) ⟨cc0_scoped1, inM, Memref.isWhole_whole _, xM, Memref.isWhole_whole _, x4, x5, x6⟩) kk) Q := by
  have row : defs₀ (F := F) (c : Thread nD τ).2 (1 : (Λ₀ F).Label) ⟨cc0_scoped1, inM, Memref.isWhole_whole _, xM, Memref.isWhole_whole _, x4, x5, x6⟩
      = cc0_while1 (F := F) cc0_scoped1 inM (Memref.isWhole_whole _) xM (Memref.isWhole_whole _) x4 x5 x6 := rfl
  rw [← row]
  iintro H
  iapply (wp_call 𝒱₀ (c : Thread nD τ) bd Set.univ v hv)
  iexact H

/-- The prologue loop entered past its condition: it returns what it was given. -/
theorem call1_exit {α : Type} (bd : Option 𝒱₀.V) (v : 𝒱₀.V) (hv : ∀ u ∈ bd, 𝒱₀.lt v u) (x4 x5 x6 y4 y5 y6 : BitVec 32)
    (h4 : x4 = y4) (h5 : x5 = y5) (h6 : x6 = y6) (hn : ¬first1 y5 y6 = 1#1)
    (kk : BitVec 32 × BitVec 32 × BitVec 32 → Prog (TpuEff nD τ sig (Elt F) (Λ₀ F) .tc) α) (Q : α → sProp 𝕄) :
    wp frame (wpE (defs₀ (F := F)) 𝒱₀ (c : Thread nD τ) bd) Set.univ (kk (y4, y5, y6)) Q
      ⊢ wp frame (wpE (defs₀ (F := F)) 𝒱₀ (c : Thread nD τ) bd) Set.univ
          (.op (.call (1 : (Λ₀ F).Label) ⟨cc0_scoped1, inM, Memref.isWhole_whole _, xM, Memref.isWhole_whole _, x4, x5, x6⟩) kk) Q := by
  subst h4 h5 h6
  iintro H
  iapply (call1_body c bd v hv)
  sl_unfold [cc0_while1]
  sl_exec
  iexact H

/-- The prologue loop, entered at block 1: it issues block 1 into slot 1, is entered once more and returns. -/
theorem call1_issue {α : Type} (x4 x5 x6 : BitVec 32) (h4 : x4 = W 0) (h5 : x5 = W 1) (h6 : x6 = W 1)
    (f : Buf (Elt F) ((inSlot 1).view.loc (c : Thread nD τ)))
    (kk : BitVec 32 × BitVec 32 × BitVec 32 → Prog (TpuEff nD τ sig (Elt F) (Λ₀ F) .tc) α) (Q : α → sProp 𝕄) :
    iprop((inSlotP c 1 f ∗ inCellP c 1 ∗ xP c XA 1)
        ∗ (inFlightP c XA 1 1 f -∗ wp frame (wpE (defs₀ (F := F)) 𝒱₀ (c : Thread nD τ) none) Set.univ (kk (W 1, W 2, W 2)) Q))
      ⊢ wp frame (wpE (defs₀ (F := F)) 𝒱₀ (c : Thread nD τ) none) Set.univ
          (.op (.call (1 : (Λ₀ F).Label) ⟨cc0_scoped1, inM, Memref.isWhole_whole _, xM, Memref.isWhole_whole _, x4, x5, x6⟩) kk) Q := by
  subst h4 h5 h6
  have g1 := chk1_lit
  have g2 := chk2_lit
  have hc := cond1_lit
  have hw : first1 (W 1) (W 1) = 1#1 := by decide
  iintro ⟨⟨HS, HC, HX⟩, HK⟩
  iapply (call1_body c none (1 : ℕ) (fun u hu => by cases hu))
  sl_unfold [cc0_while1]
  sl_exec
  iapply (call1_exit c _ (0 : ℕ) (fun u hu => by cases hu; exact Nat.zero_lt_one) _ _ _ (W 1) (W 2) (W 2) rfl (by decide) (by decide) (by decide))
  sl_step
  iapply HK
  iexact HC

/-! ## The look-ahead at any trip -/

/-- A block apart from the others, as a separating conjunction. -/
theorem apart {S : Finset (Fin 8)} {b : Fin 8} (hb : b ∉ S) (Φ : Fin 8 → sProp 𝕄) : bigSep (insert b S) Φ = iprop(Φ b ∗ bigSep S Φ) := bigSep_insert hb

/-- Blocks `k`, `k + 1` out and block `k + 2` still home. -/
theorem home_ahead (k : ℕ) (hk : k < 6) : Ring.homeSet (NB := 8) 2 k = insert (Ring.bk 8 (k + 2)) (Ring.homeSet 3 k) := by
  ext b
  rw [Finset.mem_insert, Ring.mem_homeSet, Ring.mem_homeSet, Fin.ext_iff, Ring.bk_val (by omega)]
  omega
theorem ahead_not_home (k : ℕ) (hk : k < 6) : Ring.bk 8 (k + 2) ∉ Ring.homeSet (NB := 8) 3 k := by
  rw [Ring.mem_homeSet, Ring.bk_val (by omega)]
  omega
/-- With no block left to fetch the look-ahead changes nothing. -/
theorem home_last (k : ℕ) (hk : ¬k < 6) : Ring.homeSet (NB := 8) 2 k = Ring.homeSet 3 k := by
  ext b
  rw [Ring.mem_homeSet, Ring.mem_homeSet]
  omega
/-- Block `k` coming home. -/
theorem home_back (k : ℕ) (hk : k < 8) : Ring.homeSet (NB := 8) 2 (k + 1) = insert (Ring.bk 8 k) (Ring.homeSet 3 k) := by
  ext b
  rw [Finset.mem_insert, Ring.mem_homeSet, Ring.mem_homeSet, Fin.ext_iff, Ring.bk_val hk]
  omega
theorem back_not_home (k : ℕ) (hk : k < 8) : Ring.bk 8 k ∉ Ring.homeSet (NB := 8) 3 k := by
  rw [Ring.mem_homeSet, Ring.bk_val hk]
  omega

/-- The look-ahead of trip `k`: block `k + 2` goes out into the free slot while there is such a block. -/
theorem call2_look {α : Type} (k : ℕ) (hk : k < 8) (kt : Fin k0_t1_loop.trips) (x102 x11 x12 x13 : BitVec 32)
    (h102 : x102 = W (k + 3)) (h11 : x11 = W (min (k + 1) 7)) (h12 : x12 = W (min (k + 2) 8)) (h13 : x13 = W (min (k + 2) 8))
    (kk : BitVec 32 × BitVec 32 × BitVec 32 → Prog (TpuEff nD τ sig (Elt F) (Λ₀ F) .tc) α) (Q : α → sProp 𝕄) :
    iprop((inFree c (Ring.sl 3 (k + 2)) ∗ bigSep (Ring.homeSet 2 k) (xP c XA))
        ∗ ((inRole c XA (k + 2) ∗ bigSep (Ring.homeSet 3 k) (xP c XA))
            -∗ wp frame (wpE (defs₀ (F := F)) 𝒱₀ (c : Thread nD τ) none) Set.univ (kk (W (min (k + 2) 7), W (min (k + 3) 8), W (min (k + 3) 8))) Q))
      ⊢ wp frame (wpE (defs₀ (F := F)) 𝒱₀ (c : Thread nD τ) none) Set.univ
          (.op (.call (2 : (Λ₀ F).Label) ⟨kt, x102, cc0_scoped1, inM, Memref.isWhole_whole _, xM, Memref.isWhole_whole _, x11, x12, x13⟩) kk) Q := by
  by_cases h6 : k < 6
  · rw [Nat.min_eq_left (by omega : k + 1 ≤ 7)] at h11
    rw [Nat.min_eq_left (by omega : k + 2 ≤ 8)] at h12 h13
    rw [Nat.min_eq_left (by omega : k + 2 ≤ 7), Nat.min_eq_left (by omega : k + 3 ≤ 8), home_ahead k h6, apart (ahead_not_home k h6),
      show inRole c XA (k + 2) = _ from Ring.roleAt_of_lt _ _ (k + 2) (by omega)]
    iintro ⟨⟨⟨HS, HC⟩, HX, HH⟩, HK⟩
    icases HS with ⟨%f, HS⟩
    iapply (call2_issue c XA k h6 kt x102 x11 x12 x13 h102 h11 h12 h13 f kk Q)
    isplitl [HS HC HX]
    · isplitl [HS]; · iexact HS
      isplitl [HC]; · iexact HC
      iexact HX
    iintro HF
    iapply HK
    isplitl [HF]
    · iexists f; iexact HF
    iexact HH
  · rw [home_last k h6, show inRole c XA (k + 2) = _ from Ring.roleAt_of_le _ _ (k + 2) (by omega)]
    have hn : ¬ahead2 x102 (W (min (k + 2) 8)) (W (min (k + 2) 8)) = 1#1 := by
      subst h102
      exact (by decide : ∀ j : Fin 8, ¬j.val < 6 → ¬ahead2 (W (j.val + 3)) (W (min (j.val + 2) 8)) (W (min (j.val + 2) 8)) = 1#1) ⟨k, hk⟩ h6
    rw [show min (k + 2) 7 = min (k + 1) 7 by omega, show min (k + 3) 8 = min (k + 2) 8 by omega]
    iintro ⟨HR, HK⟩
    iapply (call2_exit c none (1 : ℕ) (fun u h => nomatch h) kt x102 x11 x12 x13 _ _ _ h11 h12 h13 hn kk Q)
    iapply HK
    iexact HR

end Cert.Proof.Stream

end
-- ==== Proof.Trip.lean ====
module

public import proofs.«01_k».proof.Proof.While

@[expose] public section

noncomputable section

namespace Cert.Proof.Stream

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

variable (c : Dev nD) (XA : Buf (Elt F) (xM.view.loc (c : Thread nD τ)))
  (arg1 : Memref sig .tc .vmem S2048x16 .f32) (harg1 : arg1.IsWhole)
  (arg2 : Memref sig .tc .vmem S16x64 .f32) (harg2 : arg2.IsWhole)
  (v1 : FVec F S2048x16 .f32) (v3 : FVec F S16x64 .f32)

instance (k : Fin 8) : ClosedOff (k0_off13 (W k.val)) := ⟨inSlotOff (Ring.sl 3 k.val), off13_eq k.val k.isLt⟩
instance (k : Fin 8) : ClosedOff (k0_off14 (W k.val)) := ⟨outSlotOff (Ring.sl 2 k.val), off14_eq k.val k.isLt⟩

/-- The words before trip `k`: blocks issued, blocks waited for, the last block fetched, output blocks issued, output blocks
    waited for, and the block index. -/
def carried (k : ℕ) : BitVec 32 × BitVec 32 × BitVec 32 × BitVec 32 × BitVec 32 × BitVec 32 :=
  (W (min (k + 2) 8), W k, W (min (k + 1) 7), W k, W (k - 1), W (k % 8))

/-- Trip `k` of the loop, entered with the words `acc`. -/
abbrev tripG (k : ℕ) (hk : k < 8) (acc : BitVec 32 × BitVec 32 × BitVec 32 × BitVec 32 × BitVec 32 × BitVec 32) :=
  k0_t1_body (F := F) xM (Memref.isWhole_whole _) arg1 harg1 arg2 harg2 oM (Memref.isWhole_whole _) inM (Memref.isWhole_whole _) cc0_scoped1 outM (Memref.isWhole_whole _) cc0_scoped3 v1 v3 (trip k hk) acc

/-- Before the first trip no output is in flight. -/
theorem outRole_zero (k : ℕ) (h : k = 0) : outRole c XA v1 v3 k = outFree c (Ring.sl 2 (k + 1)) := Ring.roleBAt_of_lt _ _ _ k (by omega)
/-- Before trip `k ≥ 1` output block `k - 1` is in flight out of the slot of that trip. -/
theorem outRole_pos (k : ℕ) (h : 1 ≤ k) : outRole c XA v1 v3 k = outBusy c XA v1 v3 (Ring.sl 2 (k - 1)) (Ring.bk 8 (k - 1)) := by
  rw [← Ring.sl2_succ_eq_pred k h]
  exact Ring.roleBAt_of_le _ _ _ k h
/-- The same after trip `k`. -/
theorem outRole_succ (k : ℕ) : outRole c XA v1 v3 (k + 1) = outBusy c XA v1 v3 (Ring.sl 2 k) (Ring.bk 8 k) := outRole_pos c XA v1 v3 (k + 1) (by omega)
/-- The first trip finishes no output block. -/
theorem behind_zero (k : ℕ) (h : k = 0) :
    bigSep (Ring.behindSet (NB := 8) 1 (k + 1)) (oDone c XA v1 v3) = bigSep (Ring.behindSet (NB := 8) 1 k) (oDone c XA v1 v3) := by
  rw [Ring.behindSet_boot 1 k (by omega), Ring.behindSet_boot 1 (k + 1) (by omega)]
/-- Trip `k ≥ 1` finishes output block `k - 1`. -/
theorem behind_pos (k : ℕ) (h : 1 ≤ k) (hk : k < 8) :
    bigSep (Ring.behindSet (NB := 8) 1 (k + 1)) (oDone c XA v1 v3) = iprop(oDone c XA v1 v3 (Ring.bk 8 (k - 1)) ∗ bigSep (Ring.behindSet 1 k) (oDone c XA v1 v3)) := by
  rw [Ring.behindSet_close 1 k h hk, apart (Ring.bk_not_mem_behindSet 1 k h hk)]

/-- A trip: block `k` arrives, block `k + 2` goes out, the products of block `k` are stored and sent, the products of
    block `k - 1` are waited for. -/
theorem trip_step (k : Fin 8) :
    resAt c XA v1 v3 k.val
      ⊢ wp frame (wpE (defs₀ (F := F)) 𝒱₀ (c : Thread nD τ) none) Set.univ (tripG (F := F) arg1 harg1 arg2 harg2 v1 v3 k.val k.isLt (carried k.val))
          (fun acc => iprop(⌜acc = carried (k.val + 1)⌝ ∗ resAt c XA v1 v3 (k.val + 1))) := by
  have hk := k.isLt
  have g5 := chk5_eq k.val hk
  have g6 := chk6_eq k.val hk
  have g7 := chk7_eq k.val hk
  have h3 := cond3_eq k.val hk
  have h6 := cond6_eq k.val hk
  unfold resAt
  rw [show inRole c XA k.val = _ from Ring.roleAt_of_lt _ _ k.val hk, Ring.aheadSet_open (NB := 8) k.val hk, apart (Ring.bk_not_mem_aheadSet_succ (NB := 8) k.val hk),
    home_back k.val hk, apart (back_not_home k.val hk),
    show Ring.sl 3 (k.val + 1 + 2) = Ring.sl 3 k.val from Ring.sl_succ_add 3 k.val 2 rfl]
  iintro ⟨HW, HH, HI, HI1, HFree, ⟨HG, HA⟩, HB, ⟨HO, HOC⟩, HR⟩
  icases HW with ⟨%WW, HW⟩
  icases HI with ⟨%f0, HI⟩
  icases HO with ⟨%o0, HO⟩
  icases HG with ⟨%g0, HG⟩
  dsimp only [tripG, carried]
  rw [Nat.mod_eq_of_lt hk]
  sl_unfold [k0_t1_body]
  sl_exec
  iapply (call2_look c XA k.val hk _ _ _ _ _
    ((by decide : ∀ j : Fin 8, Scalar.addi (W j.val) 3#32 = W (j.val + 3)) k) rfl
    ((by decide : ∀ j : Fin 8, Scalar.addi (W (min (j.val + 1) 7)) 1#32 = W (min (j.val + 2) 8)) k) rfl)
  isplitl [HFree HH]
  · isplitl [HFree]; · iexact HFree
    iexact HH
  iintro ⟨HI2, HH⟩
  rcases Nat.eq_zero_or_pos k.val with h0 | h1
  · have h8 := (by decide : ∀ j : Fin 8, j.val = 0 → ¬k0_cond8 (trip j.val j.isLt) (W j.val) = 1#1) k h0
    sl_exec
    sl_step
    isplitl []
    · ipureintro; clear * - h0; decide +revert
    isplitl [HW]; · iexists _; iexact HW
    isplitl [HI_src HH]
    · isplitl [HI_src]; · iexact HI_src
      iexact HH
    isplitl [HI1]; · iexact HI1
    isplitl [HI2]; · iexact HI2
    isplitl [HI_dst HI]
    · isplitl [HI_dst]
      · iexists _; iexact HI_dst
      iexact HI
    isplitl [HA]; · iexact HA
    isplitl [HB]; · iapply (Entails.of_eq (behind_zero c XA v1 v3 k.val h0).symm); iexact HB
    isplitl [HR]; · iapply (Entails.of_eq (outRole_zero c XA v1 v3 k.val h0)); iexact HR
    iapply (Entails.of_eq (outRole_succ c XA v1 v3 k.val).symm)
    iexists _; iexists _
    isplitr [HOC]
    pick_goal 2
    · iexact HOC
    ipureintro
    exact stored_words c XA v1 v3 (off14_eq k.val hk) _ (off13_eq k.val hk) _ (Ring.bk 8 k.val) o0 _
  · have h8 := cond8_eq k.val h1 hk
    have hk1 : k.val - 1 < 8 := by omega
    ihave HR := (Entails.of_eq (outRole_pos c XA v1 v3 k.val h1)) $$ HR
    icases HR with ⟨%g1, %o1, %ho1, HR⟩
    sl_exec
    sl_step
    isplitl []
    · ipureintro; clear * - h1; decide +revert
    isplitl [HW]; · iexists _; iexact HW
    isplitl [HI_src HH]
    · isplitl [HI_src]; · iexact HI_src
      iexact HH
    isplitl [HI1]; · iexact HI1
    isplitl [HI2]; · iexact HI2
    isplitl [HI_dst HI]
    · isplitl [HI_dst]
      · iexists _; iexact HI_dst
      iexact HI
    isplitl [HA]; · iexact HA
    isplitl [HB HR_dst]
    · iapply (Entails.of_eq (behind_pos c XA v1 v3 k.val h1 hk).symm)
      isplitl [HR_dst]
      · iexists _
        isplitr [HR_dst]
        · ipureintro
          exact (View.read_writes_whole (oBlk (Ring.bk 8 (k.val - 1))).view g1 _).trans ho1
        iexact HR_dst
      iexact HB
    isplitl [HR_src HR]
    · iapply (Entails.of_eq (congrArg (outFree c) (Ring.sl2_succ_eq_pred k.val h1)).symm)
      isplitl [HR_src]
      · iexists _; iexact HR_src
      iexact HR
    iapply (Entails.of_eq (outRole_succ c XA v1 v3 k.val).symm)
    iexists _; iexists _
    isplitr [HOC]
    pick_goal 2
    · iexact HOC
    ipureintro
    exact stored_words c XA v1 v3 (off14_eq k.val hk) _ (off13_eq k.val hk) _ (Ring.bk 8 k.val) o0 _

end Cert.Proof.Stream

end
-- ==== Proof.Body.lean ====
module

public import proofs.«01_k».proof.Proof.Trip

/-!
# The kernel body: the prologue's two issues, the eight trips, the last output block waited for
-/

@[expose] public section

noncomputable section

namespace Cert.Proof.Stream

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

variable (c : Dev nD) (XA : Buf (Elt F) (xM.view.loc (c : Thread nD τ)))
  (arg1 : Memref sig .tc .vmem S2048x16 .f32) (harg1 : arg1.IsWhole)
  (arg2 : Memref sig .tc .vmem S16x64 .f32) (harg2 : arg2.IsWhole)

section Loop
variable (v1 : FVec F S2048x16 .f32) (v3 : FVec F S16x64 .f32)

/-- The loop's invariant: the carried words and the pieces before trip `k`. -/
def loopInv (k : ℕ) (acc : BitVec 32 × BitVec 32 × BitVec 32 × BitVec 32 × BitVec 32 × BitVec 32) : sProp 𝕄 :=
  iprop(⌜acc = carried k⌝ ∗ resAt c XA v1 v3 k)

/-- The loop's region on the kernel's buffers. -/
abbrev region := k0_t1_body (F := F) xM (Memref.isWhole_whole _) arg1 harg1 arg2 harg2 oM (Memref.isWhole_whole _) inM (Memref.isWhole_whole _) cc0_scoped1 outM (Memref.isWhole_whole _) cc0_scoped3 v1 v3

/-- Each trip takes the invariant to the next. -/
theorem loop_step (k : Fin k0_t1_loop.trips) (acc) :
    loopInv c XA v1 v3 k.val acc
      ⊢ wp frame (wpE (defs₀ (F := F)) 𝒱₀ (c : Thread nD τ) none) Set.univ (region (F := F) arg1 harg1 arg2 harg2 v1 v3 k acc) (loopInv c XA v1 v3 (k.val + 1)) := by
  obtain ⟨k, hk⟩ := k
  have h8 : k < 8 := trips_eq ▸ hk
  unfold loopInv
  iintro ⟨%e, H⟩
  subst e
  iapply (trip_step c XA arg1 harg1 arg2 harg2 v1 v3 ⟨k, h8⟩)
  iexact H

/-- The loop: from the pieces before trip 0, the rest runs from those after trip 7 with the last carried words. -/
theorem loop_run {β : Type} (kk : _ → Prog (TpuEff nD τ sig (Elt F) (Λ₀ F) .tc) β) (Q : β → sProp 𝕄) :
    iprop(resAt c XA v1 v3 0 ∗ (resAt c XA v1 v3 8 -∗ wp frame (wpE (defs₀ (F := F)) 𝒱₀ (c : Thread nD τ) none) Set.univ (kk (W 8, W 8, W 7, W 8, W 7, W 0)) Q))
      ⊢ wp frame (wpE (defs₀ (F := F)) 𝒱₀ (c : Thread nD τ) none) Set.univ
          (k0_t1_loop.for k0_t1_ok (W 2, 0#32, W 1, 0#32, 0#32, 0#32) (region (F := F) arg1 harg1 arg2 harg2 v1 v3) >>= kk) Q := by
  iintro ⟨H, HK⟩
  ihave HI := (show resAt c XA v1 v3 0 ⊢ loopInv c XA v1 v3 0 (W 2, 0#32, W 1, 0#32, 0#32, 0#32) from by
    unfold loopInv; iintro H; isplitl []; · ipureintro; rfl
    iexact H) $$ H
  iapply (Scf.wp_for_bind frame (wpE (defs₀ (F := F)) 𝒱₀ (c : Thread nD τ) none) Set.univ k0_t1_loop.lb k0_t1_loop.ub k0_t1_loop.st k0_t1_ok
    (W 2, 0#32, W 1, 0#32, 0#32, 0#32) (region (F := F) arg1 harg1 arg2 harg2 v1 v3) (loopInv c XA v1 v3) (loop_step c XA arg1 harg1 arg2 harg2 v1 v3)) $$ HI
  rw [show Scf.trips k0_t1_loop.lb k0_t1_loop.ub k0_t1_loop.st = 8 from trips_eq]
  unfold loopInv
  iintro %acc ⟨%e, H⟩
  rw [e]
  iapply HK
  iexact H

/-- After the prologue the loop's pieces are those before trip 0. -/
theorem resAt_zero (f0 f1) (WW : Waits sig Unit) :
    iprop(owes (c : Thread nD τ) 0 WW ∗ bigSep (Ring.homeSet 2 0) (xP c XA) ∗ inFlightP c XA 0 0 f0 ∗ inFlightP c XA 1 1 f1 ∗ inFree c 2
        ∗ bigSep (Ring.aheadSet 0) (oTodo c) ∗ outFree c 0 ∗ outFree c 1)
      ⊢ resAt c XA v1 v3 0 := by
  unfold resAt
  rw [show inRole c XA 0 = _ from Ring.roleAt_of_lt _ _ 0 (by decide), show inRole c XA (0 + 1) = _ from Ring.roleAt_of_lt _ _ 1 (by decide),
    outRole_zero c XA v1 v3 0 rfl, Ring.behindSet_boot 1 0 (by decide), show (bigSep (∅ : Finset (Fin 8)) (oDone c XA v1 v3) : sProp 𝕄) = iprop(emp) from rfl]
  iintro ⟨HW, HH, HF0, HF1, HF2, HA, HO0, HO1⟩
  isplitl [HW]; · iexists WW; iexact HW
  isplitl [HH]; · iexact HH
  isplitl [HF0]; · iexists f0; iexact HF0
  isplitl [HF1]; · iexists f1; iexact HF1
  isplitl [HF2]; · iexact HF2
  isplitl [HA]; · iexact HA
  isplitl []; · iempintro
  isplitl [HO0]; · iexact HO0
  iexact HO1

/-- After the last trip: every input block home and every input slot free, output block 7 in flight, the others written. -/
theorem resAt_end :
    resAt c XA v1 v3 8
      ⊢ iprop((∃ WW, owes (c : Thread nD τ) 0 WW) ∗ bigSep Finset.univ (xP c XA) ∗ inFree c 2 ∗ inFree c 0 ∗ inFree c 1
          ∗ bigSep (Ring.behindSet 1 8) (oDone c XA v1 v3) ∗ outFree c 0 ∗ outBusy c XA v1 v3 1 7) := by
  unfold resAt
  rw [show inRole c XA 8 = _ from Ring.roleAt_of_le _ _ 8 (by decide), show inRole c XA (8 + 1) = _ from Ring.roleAt_of_le _ _ 9 (by decide),
    outRole_succ c XA v1 v3 7, Ring.aheadSet_end (NB := 8) 8 (by decide), show Ring.homeSet (NB := 8) 2 8 = Finset.univ by decide]
  iintro ⟨HW, HH, HF2, HF0, HF1, -, HB, HO0, HO1⟩
  isplitl [HW]; · iexact HW
  isplitl [HH]; · iexact HH
  isplitl [HF2]; · iexact HF2
  isplitl [HF0]; · iexact HF0
  isplitl [HF1]; · iexact HF1
  isplitl [HB]; · iexact HB
  isplitl [HO0]; · iexact HO0
  iexact HO1

/-- The last block written beside the others. -/
theorem done_all : bigSep Finset.univ (oDone c XA v1 v3) = iprop(oDone c XA v1 v3 7 ∗ bigSep (Ring.behindSet 1 8) (oDone c XA v1 v3)) := by
  rw [show (Finset.univ : Finset (Fin 8)) = insert 7 (Ring.behindSet 1 8) by decide, apart (by decide)]

end Loop

/-- The body on its two staging buffers. -/
abbrev bodyG : Prog (TpuEff nD τ sig (Elt F) (Λ₀ F) .tc) PUnit :=
  cc0__body xM (Memref.isWhole_whole _) arg1 harg1 arg2 harg2 oM (Memref.isWhole_whole _) inM (Memref.isWhole_whole _) cc0_scoped1 outM (Memref.isWhole_whole _) cc0_scoped3

/-- The first matrix as the body loads it; -/
abbrev m1 (g1 : Buf (Elt F) (arg1.view.loc (c : Thread nD τ))) : FVec F S2048x16 .f32 :=
  k0_pay2 (arg1.view.readAt (Elt F) (Rect.unit (s := S2048x16) ![0, 0] S2048x16.size inb_S2048x16_S2048x16_0_0).toLoadRect g1)
/-- the second. -/
abbrev m2 (g2 : Buf (Elt F) (arg2.view.loc (c : Thread nD τ))) : FVec F S16x64 .f32 :=
  k0_pay3 (arg2.view.readAt (Elt F) (Rect.unit (s := S16x64) ![0, 0] S16x64.size inb_S16x64_S16x64_0_0).toLoadRect g2)

/-- The first matrix's staging buffer at `g1`; -/
abbrev m1P (g1 : Buf (Elt F) (arg1.view.loc (c : Thread nD τ))) : sProp 𝕄 := arg1.view.loc (c : Thread nD τ) ↦[arg1.view.set]{fullShare} g1
/-- the second's at `g2`. -/
abbrev m2P (g2 : Buf (Elt F) (arg2.view.loc (c : Thread nD τ))) : sProp 𝕄 := arg2.view.loc (c : Thread nD τ) ↦[arg2.view.set]{fullShare} g2

/-- What the body is handed: the two matrices' buffers, the input's blocks (the first two apart), the output's blocks, and
    every slot free. -/
abbrev PRE (g1 : Buf (Elt F) (arg1.view.loc (c : Thread nD τ))) (g2 : Buf (Elt F) (arg2.view.loc (c : Thread nD τ))) (WW : Waits sig Unit) : sProp 𝕄 :=
  iprop(m1P c arg1 g1 ∗ m2P c arg2 g2
    ∗ xP c XA 0 ∗ xP c XA 1 ∗ bigSep (Ring.homeSet 2 0) (xP c XA) ∗ bigSep (Ring.aheadSet 0) (oTodo c)
    ∗ inFree c 0 ∗ inFree c 1 ∗ inFree c 2 ∗ outFree c 0 ∗ outFree c 1 ∗ owes (c : Thread nD τ) 0 WW)

/-- What it hands back: the matrices' buffers and the input as they were, every output block written, every slot free. -/
abbrev POST (g1 : Buf (Elt F) (arg1.view.loc (c : Thread nD τ))) (g2 : Buf (Elt F) (arg2.view.loc (c : Thread nD τ))) : sProp 𝕄 :=
  iprop(m1P c arg1 g1 ∗ m2P c arg2 g2
    ∗ bigSep Finset.univ (xP c XA) ∗ bigSep Finset.univ (oDone c XA (m1 c arg1 g1) (m2 c arg2 g2))
    ∗ inFree c 0 ∗ inFree c 1 ∗ inFree c 2 ∗ outFree c 0 ∗ outFree c 1 ∗ ∃ WW, owes (c : Thread nD τ) 0 WW)

/-- The body's run. -/
theorem bodyRun (g1 g2 WW) (Q : PUnit → sProp 𝕄) :
    iprop(PRE c XA arg1 arg2 g1 g2 WW ∗ (POST c XA arg1 arg2 g1 g2 -∗ Q ⟨⟩))
      ⊢ wp frame (wpE (defs₀ (F := F)) 𝒱₀ (c : Thread nD τ) none) Set.univ (bodyG (F := F) arg1 harg1 arg2 harg2) Q := by
  have g8 := chk8_lit
  have g9 := chk9_lit
  iintro ⟨⟨HM1, HM2, HX0, HX1, HH, HA, ⟨⟨%f0, HS0⟩, HC0⟩, ⟨⟨%f1, HS1⟩, HC1⟩, HF2, ⟨⟨%o0, HO0⟩, HD0⟩, HF3, HW⟩, HK⟩
  dsimp only [bodyG]
  sl_unfold [cc0__body]
  sl_exec
  iapply (call1_issue c XA _ _ _ rfl rfl rfl f1)
  isplitl [HS1 HC1 HX1]
  · isplitl [HS1]; · iexact HS1
    isplitl [HC1]; · iexact HC1
    iexact HX1
  iintro HN
  ihave HR := (resAt_zero c XA (m1 c arg1 g1) (m2 c arg2 g2) f0 f1 WW) $$ [HW HH HC0 HN HF2 HA HO0 HD0 HF3]
  · isplitl [HW]; · iexact HW
    isplitl [HH]; · iexact HH
    isplitl [HC0]; · iexact HC0
    isplitl [HN]; · iexact HN
    isplitl [HF2]; · iexact HF2
    isplitl [HA]; · iexact HA
    isplitl [HO0 HD0]
    · isplitl [HO0]
      · iexists o0; iexact HO0
      iexact HD0
    iexact HF3
  iapply (loop_run c XA arg1 harg1 arg2 harg2 (m1 c arg1 g1) (m2 c arg2 g2))
  isplitl [HR]; · iexact HR
  iintro HR
  ihave HR := (resAt_end c XA (m1 c arg1 g1) (m2 c arg2 g2)) $$ HR
  icases HR with ⟨⟨%WE, HW⟩, HH, HF2, HF0, HF1, HB, HO0, ⟨%ge, %fe, %he, HO⟩⟩
  sl_exec
  sl_step
  iapply HK
  isplitl [HM1]; · iexact HM1
  isplitl [HM2]; · iexact HM2
  isplitl [HH]; · iexact HH
  isplitl [HO_dst HB]
  · iapply (Entails.of_eq (done_all c XA (m1 c arg1 g1) (m2 c arg2 g2)).symm)
    isplitl [HO_dst]
    · iexists _
      isplitr [HO_dst]
      pick_goal 2
      · iexact HO_dst
      ipureintro
      exact (View.read_writes_whole (oBlk 7).view ge _).trans he
    iexact HB
  isplitl [HF0]; · iexact HF0
  isplitl [HF1]; · iexact HF1
  isplitl [HF2]; · iexact HF2
  isplitl [HO0]; · iexact HO0
  isplitl [HO_src HO]
  · isplitl [HO_src]
    · iexists fe; iexact HO_src
    iexact HO
  iexists _; iexact HW

end Cert.Proof.Stream

end
-- ==== Proof.Split.lean ====
module

public import proofs.«01_k».proof.Proof.Body
public import Idealize.ShloMosaic.Lib.ValueIdxCore

/-!
# Whole buffers and their pieces

The input and the output are their eight blocks of rows; the two ring buffers are their slots. The output's blocks, each
written with its words, join to one buffer: row `r` of it is row `r mod 2048` of block `r / 2048`.
-/

@[expose] public section

noncomputable section

namespace Cert.Proof.Stream

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

/-! ## Element sets -/

/-- The input's rows of block `b`; -/
abbrev xSet (b : Fin 8) : Finset S16384x2048.Idx := (Rect.unit (s := S16384x2048) (blkOff b) S2048x2048.size (inBlkOff_inb b)).set
/-- the output's; -/
abbrev oSet (b : Fin 8) : Finset S16384x64.Idx := (Rect.unit (s := S16384x64) (blkOff b) S2048x64.size (outBlkOff_inb b)).set
/-- an input slot's plane; -/
abbrev inSet (s : Fin 3) : Finset S3x2048x2048.Idx := (Rect.unit (s := S3x2048x2048) (inSlotOff s) S1x2048x2048.size (inSlotOff_inb s)).set
/-- an output slot's. -/
abbrev outSet (s : Fin 2) : Finset S2x2048x64.Idx := (Rect.unit (s := S2x2048x64) (outSlotOff s) S1x2048x64.size (outSlotOff_inb s)).set

theorem xBlk_set (b : Fin 8) : (xBlk b).view.set = xSet b := View.set_slice_whole _ _
theorem oBlk_set (b : Fin 8) : (oBlk b).view.set = oSet b := View.set_slice_whole _ _
theorem inSlot_set (s : Fin 3) : (inSlot s).view.set = inSet s := (View.set_reshape _ _).trans (View.set_slice_whole _ _)
theorem outSlot_set (s : Fin 2) : (outSlot s).view.set = outSet s := (View.set_reshape _ _).trans (View.set_slice_whole _ _)

theorem xSet_disjoint : ∀ b b', b ≠ b' → Disjoint (xSet b) (xSet b') :=
  Ring.lead_disjoint (s := S16384x2048) 0 2048 blkOff S2048x2048.size inBlkOff_inb (fun _ => rfl) rfl
theorem xSet_cover : Finset.univ.biUnion xSet = Finset.univ :=
  Ring.lead_cover (s := S16384x2048) 0 2048 blkOff S2048x2048.size inBlkOff_inb (fun _ => rfl) (by intro b a h; fin_cases a <;> first | exact absurd rfl h | rfl) rfl
    (by intro a h; fin_cases a <;> first | exact absurd rfl h | rfl) (by decide)
theorem oSet_disjoint : ∀ b b', b ≠ b' → Disjoint (oSet b) (oSet b') :=
  Ring.lead_disjoint (s := S16384x64) 0 2048 blkOff S2048x64.size outBlkOff_inb (fun _ => rfl) rfl
theorem oSet_cover : Finset.univ.biUnion oSet = Finset.univ :=
  Ring.lead_cover (s := S16384x64) 0 2048 blkOff S2048x64.size outBlkOff_inb (fun _ => rfl) (by intro b a h; fin_cases a <;> first | exact absurd rfl h | rfl) rfl
    (by intro a h; fin_cases a <;> first | exact absurd rfl h | rfl) (by decide)
theorem inSet_disjoint : ∀ s s', s ≠ s' → Disjoint (inSet s) (inSet s') :=
  Ring.lead_disjoint (s := S3x2048x2048) 0 1 inSlotOff S1x2048x2048.size inSlotOff_inb (fun _ => (Nat.one_mul _).symm) rfl
theorem inSet_cover : Finset.univ.biUnion inSet = Finset.univ :=
  Ring.lead_cover (s := S3x2048x2048) 0 1 inSlotOff S1x2048x2048.size inSlotOff_inb (fun _ => (Nat.one_mul _).symm) (by intro b a h; fin_cases a <;> first | exact absurd rfl h | rfl) rfl
    (by intro a h; fin_cases a <;> first | exact absurd rfl h | rfl) (by decide)
theorem outSet_disjoint : ∀ s s', s ≠ s' → Disjoint (outSet s) (outSet s') :=
  Ring.lead_disjoint (s := S2x2048x64) 0 1 outSlotOff S1x2048x64.size outSlotOff_inb (fun _ => (Nat.one_mul _).symm) rfl
theorem outSet_cover : Finset.univ.biUnion outSet = Finset.univ :=
  Ring.lead_cover (s := S2x2048x64) 0 1 outSlotOff S1x2048x64.size outSlotOff_inb (fun _ => (Nat.one_mul _).symm) (by intro b a h; fin_cases a <;> first | exact absurd rfl h | rfl) rfl
    (by intro a h; fin_cases a <;> first | exact absurd rfl h | rfl) (by decide)

section Buffers
variable (c : Dev nD)

/-- The input whole at `XA`. -/
abbrev xAll (XA : Buf (Elt F) (xM.view.loc (c : Thread nD τ))) : sProp 𝕄 := ((c : Thread nD τ).loc main_arg0) ↦{fullShare} XA
/-- The output whole at `g`. -/
abbrev oAll (g : Buf (Elt F) ((c : Thread nD τ).loc main_v2)) : sProp 𝕄 := ((c : Thread nD τ).loc main_v2) ↦{fullShare} g
/-- The input ring whole, at something. -/
abbrev inAll : sProp 𝕄 := iprop(∃ f : Buf (Elt F) ((c : Thread nD τ).loc cc0_scoped0), ((c : Thread nD τ).loc cc0_scoped0) ↦{fullShare} f)
/-- The output ring whole, at something. -/
abbrev outAll : sProp 𝕄 := iprop(∃ f : Buf (Elt F) ((c : Thread nD τ).loc cc0_scoped2), ((c : Thread nD τ).loc cc0_scoped2) ↦{fullShare} f)

/-! ## The input -/

/-- The input whole is its eight blocks at home. -/
theorem x_eq (XA : Buf (Elt F) (xM.view.loc (c : Thread nD τ))) : xAll c XA = bigSep Finset.univ (xP c XA) := by
  rw [xAll, Ring.pointsTo_blocks (ℓ := (c : Thread nD τ).loc main_arg0) xSet xSet_disjoint xSet_cover]
  exact bigSep_congr fun b _ => by rw [← xBlk_set]; rfl

/-- At the body's entry blocks 0 and 1 stand apart from the rest. -/
theorem x_zero (XA : Buf (Elt F) (xM.view.loc (c : Thread nD τ))) :
    bigSep Finset.univ (xP c XA) = iprop(xP c XA 0 ∗ xP c XA 1 ∗ bigSep (Ring.homeSet 2 0) (xP c XA)) := by
  have e : (Finset.univ : Finset (Fin 8)) = insert 0 (insert 1 (Ring.homeSet (NB := 8) 2 0)) := by
    ext b; simp only [Finset.mem_univ, Finset.mem_insert, Ring.mem_homeSet, true_iff, Fin.ext_iff]; have := b.isLt; omega
  rw [e, apart (by simp [Ring.mem_homeSet, Fin.ext_iff]), apart (by simp [Ring.mem_homeSet])]

/-! ## The output -/

theorem oP_eq (b : Fin 8) (f : Buf (Elt F) ((c : Thread nD τ).loc main_v2)) :
    oP c b f = (((c : Thread nD τ).loc main_v2) ↦[oSet b]{fullShare} f : sProp 𝕄) :=
  congrArg (fun S => (_ ↦[S]{fullShare} f : sProp 𝕄)) (oBlk_set b)

/-- The output whole is its blocks, none written yet. -/
theorem o_split (g : Buf (Elt F) ((c : Thread nD τ).loc main_v2)) : oAll c g ⊢ bigSep (Ring.aheadSet (NB := 8) 0) (oTodo c) := by
  have e : (Ring.aheadSet (NB := 8) 0) = Finset.univ := by
    ext b; simp [Ring.mem_aheadSet]
  rw [e, oAll, Ring.pointsTo_blocks (ℓ := (c : Thread nD τ).loc main_v2) oSet oSet_disjoint oSet_cover]
  exact BI.bigSep_mono (s := Finset.univ) fun b _ => show (((c : Thread nD τ).loc main_v2) ↦[oSet b]{fullShare} g : sProp 𝕄) ⊢ oTodo c b by
    iintro H; iexists g; iapply (Entails.of_eq (oP_eq c b g).symm); iexact H

/-- The block a row lies in. -/
abbrev blkOf (y : S16384x64.Idx) : Fin 8 := ⟨(y 0).val / 2048, by have : (y 0).val < 16384 := (y 0).isLt; omega⟩
/-- Its place in the block. -/
abbrev inBlk (y : S16384x64.Idx) : S2048x64.Idx := ValueIdx.ix2 (⟨(y 0).val % 2048, Nat.mod_lt _ (by decide)⟩ : Fin 2048) (y 1 : Fin 64)

/-- The output's final contents: row `r` is row `r mod 2048` of block `r / 2048`'s words. -/
def outBuf (XA : Buf (Elt F) (xM.view.loc (c : Thread nD τ))) (v1 : FVec F S2048x16 .f32) (v3 : FVec F S16x64 .f32) :
    Buf (Elt F) ((c : Thread nD τ).loc main_v2) :=
  fun y => oWords c XA v1 v3 (blkOf y) (inBlk y)

/-- Every block of it reads as that block's words. -/
theorem read_outBuf (XA : Buf (Elt F) (xM.view.loc (c : Thread nD τ))) (v1 : FVec F S2048x16 .f32) (v3 : FVec F S16x64 .f32) (b : Fin 8) :
    (oBlk b).view.read (Elt F) (outBuf c XA v1 v3) = oWords c XA v1 v3 b := by
  funext x
  obtain ⟨e, he⟩ : ∃ e : S16384x64.Idx, e = (oBlk b).view.emb x := ⟨_, rfl⟩
  have h0 : (e 0).val = 2048 * b.val + (x 0).val := by
    subst he; show 2048 * b.val + 1 * (x 0).val = _; omega
  have h1 : (e 1).val = (x 1).val := by
    subst he; show 0 + 1 * (x 1).val = _; omega
  have hx : (x 0).val < 2048 := (x 0).isLt
  have eb : blkOf e = b := Fin.ext (by show _ / 2048 = _; rw [h0]; omega)
  have ex : inBlk e = x := by
    funext a
    fin_cases a
    · exact Fin.ext (by show (e 0).val % 2048 = (x 0).val; rw [h0]; omega)
    · exact Fin.ext h1
  show oWords c XA v1 v3 (blkOf ((oBlk b).view.emb x)) (inBlk ((oBlk b).view.emb x)) = _
  rw [← he, eb, ex]

/-- The written blocks join to the output whole at its final contents. -/
theorem o_join (XA : Buf (Elt F) (xM.view.loc (c : Thread nD τ))) (v1 : FVec F S2048x16 .f32) (v3 : FVec F S16x64 .f32) :
    bigSep Finset.univ (oDone c XA v1 v3) ⊢ oAll c (outBuf c XA v1 v3) := by
  rw [oAll, Ring.pointsTo_blocks (ℓ := (c : Thread nD τ).loc main_v2) oSet oSet_disjoint oSet_cover]
  refine BI.bigSep_mono (s := Finset.univ) fun b _ => show oDone c XA v1 v3 b ⊢ (((c : Thread nD τ).loc main_v2) ↦[oSet b]{fullShare} outBuf c XA v1 v3 : sProp 𝕄) from ?_
  iintro ⟨%g, %hg, H⟩
  have hc : oP c b g = (((c : Thread nD τ).loc main_v2) ↦[oSet b]{fullShare} outBuf c XA v1 v3 : sProp 𝕄) := by
    rw [← oP_eq]
    refine pointsTo_congr fun i hi => ?_
    obtain ⟨x, -, rfl⟩ := Finset.mem_map.mp hi
    exact congrFun (hg.trans (read_outBuf c XA v1 v3 b).symm) x
  iapply (Entails.of_eq hc); iexact H

/-! ## The rings -/

theorem three (Φ : Fin 3 → sProp 𝕄) : bigSep Finset.univ Φ = iprop(Φ 0 ∗ Φ 1 ∗ Φ 2) :=
  bigSep_univ_eq_bigSepL [(0 : Fin 3), 1, 2] (by decide) (by decide) Φ
theorem two (Φ : Fin 2 → sProp 𝕄) : bigSep Finset.univ Φ = iprop(Φ 0 ∗ Φ 1) :=
  bigSep_univ_eq_bigSepL [(0 : Fin 2), 1] (by decide) (by decide) Φ

theorem inSlotP_eq (s : Fin 3) (f : Buf (Elt F) ((c : Thread nD τ).loc cc0_scoped0)) :
    inSlotP c s f = (((c : Thread nD τ).loc cc0_scoped0) ↦[inSet s]{fullShare} f : sProp 𝕄) :=
  congrArg (fun S => (_ ↦[S]{fullShare} f : sProp 𝕄)) (inSlot_set s)
theorem outSlotP_eq (s : Fin 2) (f : Buf (Elt F) ((c : Thread nD τ).loc cc0_scoped2)) :
    outSlotP c s f = (((c : Thread nD τ).loc cc0_scoped2) ↦[outSet s]{fullShare} f : sProp 𝕄) :=
  congrArg (fun S => (_ ↦[S]{fullShare} f : sProp 𝕄)) (outSlot_set s)

/-- The input ring is its three slots, -/
theorem in_split : inAll (F := F) c ⊢ iprop((∃ f, inSlotP c 0 f) ∗ (∃ f, inSlotP c 1 f) ∗ ∃ f, inSlotP c 2 f) :=
  (Ring.pieces_split (ℓ := (c : Thread nD τ).loc cc0_scoped0) inSet inSet_disjoint inSet_cover (inSlotP c) (inSlotP_eq c)).trans
    (Entails.of_eq (three _))
/-- and back. -/
theorem in_join : iprop((∃ f, inSlotP c 0 f) ∗ (∃ f, inSlotP c 1 f) ∗ ∃ f, inSlotP c 2 f) ⊢ inAll (F := F) c := by
  iintro ⟨⟨%f, H0⟩, H⟩
  iapply (Ring.pieces_join (ℓ := (c : Thread nD τ).loc cc0_scoped0) inSet inSet_disjoint inSet_cover (inSlotP c) (inSlotP_eq c) f)
  iapply (Entails.of_eq (three fun s => iprop(∃ f, inSlotP (F := F) c s f)).symm)
  isplitl [H0]
  · iexists f; iexact H0
  iexact H
/-- The output ring is its two slots, -/
theorem out_split : outAll (F := F) c ⊢ iprop((∃ f, outSlotP c 0 f) ∗ ∃ f, outSlotP c 1 f) :=
  (Ring.pieces_split (ℓ := (c : Thread nD τ).loc cc0_scoped2) outSet outSet_disjoint outSet_cover (outSlotP c) (outSlotP_eq c)).trans
    (Entails.of_eq (two _))
/-- and back. -/
theorem out_join : iprop((∃ f, outSlotP c 0 f) ∗ ∃ f, outSlotP c 1 f) ⊢ outAll (F := F) c := by
  iintro ⟨⟨%f, H0⟩, H⟩
  iapply (Ring.pieces_join (ℓ := (c : Thread nD τ).loc cc0_scoped2) outSet outSet_disjoint outSet_cover (outSlotP c) (outSlotP_eq c) f)
  iapply (Entails.of_eq (two fun s => iprop(∃ f, outSlotP (F := F) c s f)).symm)
  isplitl [H0]
  · iexists f; iexact H0
  iexact H

end Buffers

end Cert.Proof.Stream

end
-- ==== Proof.Launch.lean ====
module

public import proofs.«01_k».proof.Proof.Split
public import Idealize.ShloMosaic.Lib.Pipeline.Frame

/-!
# The launch: two host transposes, then the kernel's one region

The two transposed matrices are the region's windows, fetched whole before its one point; the input and the output stay
where they are and the body moves their blocks itself. Between the region's ends the body's invariant holds the input, the
output's blocks (to do before the point, done after it) and every slot free.
-/

@[expose] public section

noncomputable section

namespace Cert.Proof.Stream

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]
local notation "𝕄" => MT nD τ sig Unit (Elt F) ℕ (UU nD τ) ℕ

variable (m : (ℓ : Loc nD τ sig) → Buf (Elt F) ℓ) (ρ : Dev nD → PrngReg)

/-! ## What the host operations leave -/

/-- Core `c`'s buffers when the region is entered: the two transposes have run. -/
def V (c : Dev nD) (b : Ref sig .tc) : Buf (Elt F) ((c : Thread nD τ).loc b) :=
  StableHlo.after hostOps0 (fun b => m (c, b)) b

/-- Neither transpose writes any buffer but its own result. -/
theorem not_written (b : Ref sig .tc) (hb : b ≠ main_v0 ∧ b ≠ main_v1) :
    ∀ op ∈ (hostOps0 (F := F)), Proc.devRef .tc b ∉ op.writes := by
  obtain ⟨h0, h1⟩ := hb
  intro op hop
  simp only [List.mem_cons, List.mem_nil_iff, or_false] at hop
  rcases hop with rfl | rfl <;>
    simp only [StableHlo.unary_writes, Finset.mem_singleton] <;>
    exact StableHlo.devRef_ne_of_ne ‹_›

/-- A buffer neither transpose writes reaches the region as launched. -/
theorem V_kept (c : Dev nD) (b : Ref sig .tc) (hb : b ≠ main_v0 ∧ b ≠ main_v1) : V m c b = m ((c : Thread nD τ).loc b) :=
  StableHlo.after_of_forall_not_mem (b := Proc.devRef .tc b) hostOps0 (fun b => m (c, b)) (not_written b hb)

/-- The first matrix, transposed; -/
theorem V_v0 (c : Dev nD) :
    V m c main_v0 = transpose S2048x16 [1, 0] (m ((c : Thread nD τ).loc main_arg1)) transposes_S16x2048_S2048x16_1_0 := by
  unfold V; after_results
/-- the second. -/
theorem V_v1 (c : Dev nD) :
    V m c main_v1 = transpose S16x64 [1, 0] (m ((c : Thread nD τ).loc main_arg2)) transposes_S64x16_S16x64_1_0 := by
  unfold V; after_results

/-! ## The pipeline's proof data -/

/-- The kernel's own semaphores: the input slots' cells, then the output slots'. -/
abbrev osem : Fin 5 → SemLoc sig :=
  ![.dma (inCell 0).sem, .dma (inCell 1).sem, .dma (inCell 2).sem, .dma (outCell 0).sem, .dma (outCell 1).sem]
theorem ownSemFacts : Pipeline.OwnSemFacts spec0 osem := by decide

/-- They are at zero when every cell is. -/
theorem ownSems0_eq (c : Dev nD) : (Pipeline.ownSems0 (Ix := Unit) (Name := ℕ) (U := UU nD τ) (Lvl := ℕ) (Val := Elt F) (τ := τ) osem c : sProp 𝕄)
    = iprop(inCellP c 0 ∗ inCellP c 1 ∗ inCellP c 2 ∗ outCellP c 0 ∗ outCellP c 1) := by
  unfold Pipeline.ownSems0
  exact bigSep_univ_eq_bigSepL [(0 : Fin 5), 1, 2, 3, 4] (by decide) (by decide) _

/-- The input, as launched. -/
abbrev XA (c : Dev nD) : Buf (Elt F) (xM.view.loc (c : Thread nD τ)) := m ((c : Thread nD τ).loc main_arg0)

/-- Window `w`'s block at the point, read off its array. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The first matrix as the body loads it; -/
def mat1 (c : Dev nD) : FVec F S2048x16 .f32 := m1 c (stage0_0 0) ((stage0_0 0).view.rep (iblk m c 0 t0_0))
/-- the second. -/
def mat2 (c : Dev nD) : FVec F S16x64 .f32 := m2 c (stage0_1 0) ((stage0_1 0).view.rep (iblk m c 1 t0_0))

/-- What the body needs and returns beside the matrices: the input at home, the output's blocks as `O` says, every slot free. -/
abbrev held (c : Dev nD) (O : sProp 𝕄) : sProp 𝕄 :=
  iprop(bigSep Finset.univ (xP c (XA m c)) ∗ O ∗ inFree c 0 ∗ inFree c 1 ∗ inFree c 2 ∗ outFree c 0 ∗ outFree c 1)
/-- Before the point; -/
def ΦI (c : Dev nD) : sProp 𝕄 := held m c (bigSep (Ring.aheadSet (NB := 8) 0) (oTodo c))
/-- after it. -/
def ΦO (c : Dev nD) : sProp 𝕄 := held m c (bigSep Finset.univ (oDone c (XA m c) (mat1 m c) (mat2 m c)))

/-- The invariant by the number of points run. -/
def Φat (c : Dev nD) : ℕ → sProp 𝕄
  | 0 => ΦI m c
  | _ + 1 => ΦO m c

/-- The pipeline's proof data: each window's array at its contents on entry, each staging buffer left as fetched, the invariant. -/
def dats (_ : Fin 1) (c : Dev nD) : Dat τ (Elt F) Unit ℕ (UU nD τ) ℕ (cfg0 (F := F)) c where
  A w := V m c (Pipeline.arrRef spec0 w)
  after w t := match w with
    | ⟨0, _⟩ => iblk m c 0 t
    | ⟨1, _⟩ => iblk m c 1 t
  Φ k := Φat m c k.val
  q _ := fullShare
  owed _ := 0

theorem Φ_eq (c : Dev nD) (k : Fin ((cfg0 (F := F)).N + 1)) : (dats m 0 c).Φ k = Φat m c k.val := by dsimp only [dats]
theorem A_eq (c : Dev nD) (w : Fin (cfg0 (F := F)).W) : (dats m 0 c).A w = V m c (Pipeline.arrRef spec0 w) := by dsimp only [dats]
theorem before_w0 (c : Dev nD) (t : Fin (cfg0 (F := F)).N) (d) : (dats m 0 c).before 0 t d = iblk m c 0 t := by
  unfold Dat.before; rw [if_pos (fetch0_0 t)]; unfold Dat.fetched Dat.blockOf iblk; dsimp only [dats]; rfl
theorem before_w1 (c : Dev nD) (t : Fin (cfg0 (F := F)).N) (d) : (dats m 0 c).before 1 t d = iblk m c 1 t := by
  unfold Dat.before; rw [if_pos (fetch0_1 t)]; unfold Dat.fetched Dat.blockOf iblk; dsimp only [dats]; rfl
theorem after_w0 (c : Dev nD) (t : Fin (cfg0 (F := F)).N) : (dats m 0 c).after 0 t = iblk m c 0 t := by dsimp only [dats]; rfl
theorem after_w1 (c : Dev nD) (t : Fin (cfg0 (F := F)).N) : (dats m 0 c).after 1 t = iblk m c 1 t := by dsimp only [dats]; rfl

/-! ## The body obligation -/

/-- The body table's TensorCore entry is the kernel on the staging buffers. -/
theorem defs_tc : (defs₀ (F := F)) .tc (cfg0 (F := F)).body
    = fun a => bodyG (win0_0.stage (a.2 0)) (hstage0_0 0) (win0_1.stage (a.2 1)) (hstage0_1 0) := rfl
theorem prog_eq : (defs₀ (F := F)) .tc (cfg0 (F := F)).body ((cfg0 (F := F)).bodyArgs t0_0 ((cfg0 (F := F)).slots t0_0))
    = bodyG (stage0_0 0) (hstage0_0 0) (stage0_1 0) (hstage0_1 0) :=
  (congrFun defs_tc _).trans rfl

set_option backward.isDefEq.respectTransparency.types false in
/-- At the one point the body takes the invariant before to the invariant after, its windows unchanged. -/
theorem body_obligation (c : Dev nD) : BodyObligation (dats (F := F) m 0 c) (defs₀ (F := F)) 𝒱₀ () Set.univ := fun t => by
  obtain rfl : t = t0_0 := fin_N0 t
  rw [bigSep_W0, bigSep_W0]
  dsimp only
  simp only [before_w0, before_w1, after_w0, after_w1]
  rw [show (dats m 0 c).Φ (Fin.castSucc t0_0) = ΦI m c from Φ_eq m c _, show (dats m 0 c).Φ (Fin.succ t0_0) = ΦO m c from Φ_eq m c _]
  unfold Dat.owesAt Pipeline.owesWithin
  rw [show (dats m 0 c).owed (Fin.castSucc t0_0) = 0 from rfl, show (dats m 0 c).owed (Fin.succ t0_0) = 0 from rfl]
  unfold owns ΦI ΦO held
  iintro ⟨⟨HX, HO, HI0, HI1, HI2, HO0, HO1⟩, ⟨%W, -, HW⟩, ⟨%d0, %g0, %hg0, HM1⟩, ⟨%d1, %g1, %hg1, HM2⟩⟩
  ihave HX3 := (Entails.of_eq (x_zero c (XA m c))) $$ HX
  icases HX3 with ⟨HX0, HX1, HH⟩
  ihave HM1' := (pointsTo_rep_entails (c : Thread nD τ) (stage0_0 0) g0 fullShare) $$ HM1
  ihave HM2' := (pointsTo_rep_entails (c : Thread nD τ) (stage0_1 0) g1 fullShare) $$ HM2
  rw [hg0, hg1]
  sl_rw [prog_eq]
  iapply (bodyRun c (XA m c) (stage0_0 0) (hstage0_0 0) (stage0_1 0) (hstage0_1 0) _ _ W)
  isplitl [HM1' HM2' HX0 HX1 HH HO HI0 HI1 HI2 HO0 HO1 HW]
  · isplitl [HM1']; · iexact HM1'
    isplitl [HM2']; · iexact HM2'
    isplitl [HX0]; · iexact HX0
    isplitl [HX1]; · iexact HX1
    isplitl [HH]; · iexact HH
    isplitl [HO]; · iexact HO
    isplitl [HI0]; · iexact HI0
    isplitl [HI1]; · iexact HI1
    isplitl [HI2]; · iexact HI2
    isplitl [HO0]; · iexact HO0
    isplitl [HO1]; · iexact HO1
    iexact HW
  · iintro ⟨HM1, HM2, HX, HO, HI0, HI1, HI2, HO0, HO1, ⟨%W', HW⟩⟩
    isplitl [HX HO HI0 HI1 HI2 HO0 HO1]
    · isplitl [HX]; · iexact HX
      isplitl [HO]; · iexact HO
      isplitl [HI0]; · iexact HI0
      isplitl [HI1]; · iexact HI1
      isplitl [HI2]; · iexact HI2
      isplitl [HO0]; · iexact HO0
      iexact HO1
    isplitl [HW]
    · iexists W'; isplitr; · ipureintro; exact fun _ _ => Or.inl trivial
      iexact HW
    isplitl [HM1]
    · iexists _; isplitr; · ipureintro; exact View.read_rep _ _
      iexact HM1
    iexists _; isplitr; · ipureintro; exact View.read_rep _ _
    iexact HM2

/-! ## The run -/

/-- What the region is handed beside its windows, and what comes back. -/
def intoΦ (c : Dev nD) : sProp 𝕄 :=
  iprop(bigSep Finset.univ (xP c (XA m c)) ∗ bigSep (Ring.aheadSet (NB := 8) 0) (oTodo c) ∗ Pipeline.ownSems0 osem c)
def outOfΦ (c : Dev nD) : sProp 𝕄 := iprop(xAll c (XA m c) ∗ oAll c (outBuf c (XA m c) (mat1 m c) (mat2 m c)))
/-- The two untransposed matrices pass the region by. -/
def aside (c : Dev nD) : sProp 𝕄 :=
  iprop((((c : Thread nD τ).loc main_arg1) ↦{fullShare} m ((c : Thread nD τ).loc main_arg1)) ∗ (((c : Thread nD τ).loc main_arg2) ↦{fullShare} m ((c : Thread nD τ).loc main_arg2)))
def u₀ : UU nD τ := (initOf (Pipeline.cells (cfgs (F := F)) cellOf_inj) (Pipeline.launchToks (cfgs (F := F)) cellOf_inj), 1)

/-- Core `c`'s buffers at the end: the arguments as launched, the output at its blocks' words. -/
def QY (c : Dev nD) (s : MemSt nD τ sig (Elt F)) : Prop :=
  s.mem ((c : Thread nD τ).loc main_v2) = outBuf c (XA m c) (mat1 m c) (mat2 m c)
  ∧ s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)

theorem fresh0 : (hostOps0 : List (HloOp τ sig (Elt F))).Forall fun op => op.fresh = ∅ := ⟨rfl, rfl⟩

/-- @main's host operations, then the region. -/
theorem main_prefix : Pipeline.HMain (Ix := Unit) (Name := ℕ) (U := UU nD τ) (Lvl := ℕ) cfgs (0 : Fin 1) (defs₀ (F := F)) 𝒱₀ m main (V m) :=
  Pipeline.hmain_prefix cfgs 0 defs₀ 𝒱₀ m main hostOps0 hostOps0_sub fresh0 main_chain

set_option backward.isDefEq.respectTransparency.types false in
/-- At the compiled mesh, for any float values, from any memory with zero counters: every weakly fair execution of @main
    terminates, nothing faulting, and every final state has the arguments as launched, the output at its blocks' words,
    and every semaphore counter at zero. -/
theorem run_main : θ_run defs (onTc (τ := τ) (main (F := F))) ⟨m, fun _ => 0, ρ⟩
    (fun r => (∀ c : Dev nD, QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀ (F := F))
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := main_prefix m)
    (hA := fun c w => A_eq m c w)
    (X := intoΦ m) (Y := outOfΦ m) (Z := aside m)
    (hX := fun c => by
      rw [unscopedRest0_eq, V_kept m c main_arg0 (by decide), V_kept m c main_arg1 (by decide), V_kept m c main_arg2 (by decide)]
      unfold intoΦ aside
      iintro ⟨⟨H0, H1, H2, HO⟩, HS, -, -, -⟩; imodintro
      isplitl [H0 HO HS]
      · isplitl [H0]; · iapply (Entails.of_eq (x_eq c (XA m c))); iexact H0
        isplitl [HO]; · iapply (o_split c _); iexact HO
        iexact HS
      isplitl [H1]; · iexact H1
      iexact H2)
    (hin := fun c => by
      rw [scopedRest0_eq, show (dats m 0 c).Φ 0 = ΦI m c from Φ_eq m c _]
      unfold intoΦ ΦI held; rw [ownSems0_eq]
      iintro ⟨⟨HX, HO, HC0, HC1, HC2, HD0, HD1⟩, HI, HB⟩
      ihave HI := (in_split c) $$ HI
      icases HI with ⟨HI0, HI1, HI2⟩
      ihave HB := (out_split c) $$ HB
      icases HB with ⟨HB0, HB1⟩
      isplitl [HX]; · iexact HX
      isplitl [HO]; · iexact HO
      isplitl [HI0 HC0]
      · isplitl [HI0]; · iexact HI0
        iexact HC0
      isplitl [HI1 HC1]
      · isplitl [HI1]; · iexact HI1
        iexact HC1
      isplitl [HI2 HC2]
      · isplitl [HI2]; · iexact HI2
        iexact HC2
      isplitl [HB0 HD0]
      · isplitl [HB0]; · iexact HB0
        iexact HD0
      isplitl [HB1]; · iexact HB1
      iexact HD1)
    (hout := fun c => by
      rw [scopedRest0_eq, show (dats m 0 c).Φ (Fin.last (cfg0 (F := F)).N) = ΦO m c from Φ_eq m c _, ownSems0_eq]
      unfold ΦO held outOfΦ
      iintro ⟨HX, HO, ⟨HI0, HC0⟩, ⟨HI1, HC1⟩, ⟨HI2, HC2⟩, ⟨HB0, HD0⟩, ⟨HB1, HD1⟩⟩
      isplitl [HX HO]
      · isplitl [HX]; · iapply (Entails.of_eq (x_eq c (XA m c)).symm); iexact HX
        iapply (o_join c (XA m c) (mat1 m c) (mat2 m c)); iexact HO
      isplitl [HC0 HC1 HC2 HD0 HD1]
      · isplitl [HC0]; · iexact HC0
        isplitl [HC1]; · iexact HC1
        isplitl [HC2]; · iexact HC2
        isplitl [HD0]; · iexact HD0
        iexact HD1
      isplitl [HI0 HI1 HI2]
      · iapply (in_join c)
        isplitl [HI0]; · iexact HI0
        isplitl [HI1]; · iexact HI1
        iexact HI2
      iapply (out_join c)
      isplitl [HB0]; · iexact HB0
      iexact HB1)
    (QY := QY m)
    (hY := fun c s' => by
      unfold outOfΦ aside
      iintro ⟨⟨H0, HO⟩, ⟨H1, H2⟩, HSI⟩
      icombine HSI H0 gives %h0
      icombine HSI HO gives %hO
      icombine HSI H1 gives %h1
      icombine HSI H2 gives %h2
      imodintro
      isplitr
      · ipureintro
        exact ⟨Buf.eq_of_forall_mem_univ hO, Buf.eq_of_forall_mem_univ h0, Buf.eq_of_forall_mem_univ h1, Buf.eq_of_forall_mem_univ h2⟩
      iexact HSI)
    (hQ := fun _ hh hz => ⟨fun c => (hh c).2, hz⟩)

end Cert.Proof.Stream

end
-- ==== Proof.Value.lean ====
module

public import proofs.«01_k».proof.Proof.Launch
public import proofs.«01_k».proof.Proof.Gen.ReferenceIdeal.Run
public import Idealize.ShloMosaic.Lib.StackMember
public import Idealize.ShloMosaic.Lib.KernelVsHost

/-!
# The output's words against the reference's

The matrices the body loads are the transposed arguments. Over the reals each output row is the same double sum whether its
block of 2048 rows is multiplied by the two matrices or the whole input is: a row of a product reads one row of its left
factor.
-/

@[expose] public section

noncomputable section

namespace Cert.Proof.Stream

open Cert.KernelIdeal Cert.KernelIdeal.Gen
open Idealize.ShloMosaic Idealize.ShloMosaic.TcCoe
open Idealize.ShloMosaic.ValueIdx Idealize.ShloMosaic.StackMember
open scoped BigOperators

section Loaded
variable {F : FTy → Type} [FloatOps F] (m : (ℓ : Loc nD τ sig) → Buf (Elt F) ℓ) (c : Dev nD)

/-- The first matrix the body loads is the transposed first weight. -/
theorem mat1_eq : mat1 m c = transpose S2048x16 [1, 0] (m ((c : Thread nD τ).loc main_arg1)) transposes_S16x2048_S2048x16_1_0 := by
  rw [← V_v0]
  unfold mat1 m1 k0_pay2
  refine (shapeCast_self _ _).trans ?_
  funext x
  refine (congrFun (View.read_rep (stage0_0 0).view (iblk m c 0 t0_0)) _).trans ?_
  unfold iblk
  refine congrArg (V m c main_v0) (funext fun a => Fin.ext ?_)
  fin_cases a
  · show 0 + 1 * (0 + 1 * (x 0).val) = (x 0).val; omega
  · show 0 + 1 * (0 + 1 * (x 1).val) = (x 1).val; omega

/-- The second is the transposed second weight. -/
theorem mat2_eq : mat2 m c = transpose S16x64 [1, 0] (m ((c : Thread nD τ).loc main_arg2)) transposes_S64x16_S16x64_1_0 := by
  rw [← V_v1]
  unfold mat2 m2 k0_pay3
  refine (shapeCast_self _ _).trans ?_
  funext x
  refine (congrFun (View.read_rep (stage0_1 0).view (iblk m c 1 t0_0)) _).trans ?_
  unfold iblk
  refine congrArg (V m c main_v1) (funext fun a => Fin.ext ?_)
  fin_cases a
  · show 0 + 1 * (0 + 1 * (x 0).val) = (x 0).val; omega
  · show 0 + 1 * (0 + 1 * (x 1).val) = (x 1).val; omega

/-- Row `r` of input block `b` is row `2048 b + r` of the input. -/
theorem xWords_apply (XA : Buf (Elt F) (xM.view.loc (c : Thread nD τ))) (b : Fin 8) (r k : Fin 2048) (R : Fin 16384)
    (hR : R.val = 2048 * b.val + r.val) : xWords c XA b (ix2 r k) = XA (ix2 R k) := by
  refine congrArg XA (funext fun a => Fin.ext ?_)
  fin_cases a
  · show 2048 * b.val + 1 * r.val = R.val; omega
  · show 0 + 1 * k.val = k.val; omega

end Loaded

/-- Two plain products in a row, read at an index, over the reals: the double sum of the entries' products. -/
theorem chained_apply {M K J N : ℕ} (x : FVec Ideal ⟨2, ![M, K]⟩ .f32) (v1 : FVec Ideal ⟨2, ![K, J]⟩ .f32) (v3 : FVec Ideal ⟨2, ![J, N]⟩ .f32)
    (r : Fin M) (n : Fin N) :
    Host.dotGeneral (DotDims.plain M J N) none (Host.dotGeneral (DotDims.plain M K J) none x v1) v3 (ix2 r n)
      = ∑ j : Fin J, (∑ k : Fin K, x (ix2 r k) * v1 (ix2 k j)) * v3 (ix2 j n) := by
  rw [dotGeneral_plain_apply]
  exact Finset.sum_congr rfl fun j _ => by rw [dotGeneral_plain_apply]

/-- A block's words over the reals are the host's two products of the block. -/
theorem blockOut_eq (v1 : FVec Ideal S2048x16 .f32) (v3 : FVec Ideal S16x64 .f32) (x : FVec Ideal S2048x2048 .f32) :
    blockOut v1 v3 x = Host.dotGeneral (DotDims.plain 2048 16 64) none (Host.dotGeneral (DotDims.plain 2048 2048 16) none x v1) v3 := by
  unfold blockOut
  rw [matmul_zero_eq_dotGeneral, matmul_zero_eq_dotGeneral]; rfl

/-- The output's final contents over the reals are the host's two products of the whole input. -/
theorem outBuf_eq (c : Dev nD) (XA : Buf (Elt Ideal) (xM.view.loc (c : Thread nD τ))) (v1 : FVec Ideal S2048x16 .f32) (v3 : FVec Ideal S16x64 .f32) :
    outBuf c XA v1 v3
      = Host.dotGeneral (DotDims.plain 16384 16 64) none (Host.dotGeneral (DotDims.plain 16384 2048 16) none (φ₁ := .f32) XA v1) v3 := by
  funext y
  obtain ⟨R, n, rfl⟩ : ∃ (R : Fin 16384) (n : Fin 64), y = ix2 R n := ⟨_, _, eq_ix2 y⟩
  show blockOut v1 v3 (xWords c XA (blkOf (ix2 R n))) (inBlk (ix2 R n)) = _
  rw [blockOut_eq, chained_apply, chained_apply]
  refine Finset.sum_congr rfl fun j _ => congrArg (· * _) (Finset.sum_congr rfl fun k _ => congrArg (· * _) ?_)
  exact xWords_apply c XA _ _ k R (by show R.val = 2048 * (R.val / 2048) + R.val % 2048; omega)

/-- The reference's result, as its run states it, of the arguments. -/
abbrev refOut (a0 : FVec Ideal S16384x2048 .f32) (a1 : FVec Ideal S16x2048 .f32) (a2 : FVec Ideal S64x16 .f32) : FVec Ideal S16384x64 .f32 :=
  Host.dotGeneral Cert.ReferenceIdeal.dot_S16384x16_S16x64_S16384x64_1_0_0_1_n_n none
    (Host.dotGeneral Cert.ReferenceIdeal.dot_S16384x2048_S2048x16_S16384x16_1_0_0_1_n_n none a0
      (transpose S2048x16 [1, 0] a1 transposes_S16x2048_S2048x16_1_0))
    (transpose S16x64 [1, 0] a2 transposes_S64x16_S16x64_1_0)

/-- The kernel's final output is the reference's. -/
theorem value_eq (m : (ℓ : Loc nD τ sig) → Buf (Elt Ideal) ℓ) (c : Dev nD) :
    outBuf c (XA m c) (mat1 m c) (mat2 m c)
      = refOut (m ((c : Thread nD τ).loc main_arg0)) (m ((c : Thread nD τ).loc main_arg1)) (m ((c : Thread nD τ).loc main_arg2)) := by
  rw [mat1_eq, mat2_eq, outBuf_eq]; rfl

end Cert.Proof.Stream

end
-- ==== Proof.lean ====
/- The proof of the five claims of `proofs.«01_k».proof.Defs`. -/
module

public import proofs.«01_k».proof.Defs
public import proofs.«01_k».proof.Proof.Gen.Kernel
public import proofs.«01_k».proof.Proof.Value
public import proofs.«01_k».proof.Proof.Hw.Launch

/-!
# The certificate

The idealized program's run (`Stream.run_main`, any float values) gives its frame and, at the reals, the value. The
hardware program has the same text, but each program declares its own record types for the arguments of its two `while`
loops, and these types are part of the type of a program. So no run of the one is a run of the other by definition, and
the modules under `Proof/Hw` state the same run for the hardware program. The reference's run is read off its four host
operations.
-/

@[expose] public section

noncomputable section

namespace Cert.Proof

open Idealize.ShloMosaic Idealize.ShloMosaic.TcCoe Idealize.SL.Sem

/-- The hardware program runs, leaves its arguments as they were, and ends with every counter at zero. -/
theorem frame_kernel : Cert.quiescent_Kernel := fun m ρ _ =>
  (θ_run Cert.Kernel.defs _ _).mono (fun _ h => ⟨fun c => (h.1 c).2, h.2⟩) (Hw.run_main (F := Bits) m ρ)

/-- The idealized program does the same at the reals. -/
theorem frame_ideal : Cert.quiescent_KernelIdeal := fun m ρ _ =>
  (θ_run Cert.KernelIdeal.defs _ _).mono (fun _ h => ⟨fun c => (h.1 c).2, h.2⟩) (Stream.run_main (F := Ideal) m ρ)

/-- So does the reference, which has no semaphores. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The idealized program is the hardware program's own text. -/
theorem preserves : Cert.preserves_Kernel_KernelIdeal := trivial

/-- Over the reals the kernel and the reference, on the same arguments, end with the same result. -/
theorem algebraic : Cert.algebraic_KernelIdeal_ReferenceIdeal := fun m ρ m' ρ' _ hargs =>
  ⟨fun c => Stream.refOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    (θ_run Cert.KernelIdeal.defs _ _).mono (fun _ h c => ⟨(h.1 c).1.trans (Stream.value_eq m c), (h.1 c).2⟩)
      (Stream.run_main (F := Ideal) m ρ),
    (θ_run Cert.ReferenceIdeal.defs _ _).mono
      (fun _ h c => ⟨(h c).1.trans (by rw [(hargs c).1, (hargs c).2.1, (hargs c).2.2]), (h c).2⟩)
      (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_ideal, frame_reference, preserves, algebraic⟩

end Cert.Proof

end
